-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x8192 : Shape := ⟨3, ![2, 3072, 8192]⟩
abbrev S8192 : Shape := ⟨1, ![8192]⟩
abbrev S8192x3072 : Shape := ⟨2, ![8192, 3072]⟩
abbrev S3072 : Shape := ⟨1, ![3072]⟩
abbrev S2x3072 : Shape := ⟨2, ![2, 3072]⟩
abbrev S1x128 : Shape := ⟨2, ![1, 128]⟩
abbrev S6144x8192 : Shape := ⟨2, ![6144, 8192]⟩
abbrev S1x8192 : Shape := ⟨2, ![1, 8192]⟩
abbrev S1x3072 : Shape := ⟨2, ![1, 3072]⟩
abbrev S24x2x128 : Shape := ⟨3, ![24, 2, 128]⟩
abbrev S6144x8x128 : Shape := ⟨3, ![6144, 8, 128]⟩
abbrev S6144x1 : Shape := ⟨2, ![6144, 1]⟩
abbrev S256x8192 : Shape := ⟨2, ![256, 8192]⟩
abbrev S1x2x128 : Shape := ⟨3, ![1, 2, 128]⟩
abbrev S256x8x128 : Shape := ⟨3, ![256, 8, 128]⟩
abbrev S256x1 : Shape := ⟨2, ![256, 1]⟩
abbrev S256x128 : Shape := ⟨2, ![256, 128]⟩
abbrev S1x1x128 : Shape := ⟨3, ![1, 1, 128]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S8192x256 : Shape := ⟨2, ![8192, 256]⟩
abbrev S256x256 : Shape := ⟨2, ![256, 256]⟩
abbrev S1x256 : Shape := ⟨2, ![1, 256]⟩
abbrev S8x128 : Shape := ⟨2, ![8, 128]⟩
abbrev S8x1x128 : Shape := ⟨3, ![8, 1, 128]⟩
abbrev S8x2x128 : Shape := ⟨3, ![8, 2, 128]⟩
abbrev S8x1 : Shape := ⟨2, ![8, 1]⟩

abbrev nBuf : Space → Nat
  | .hbm => 15
  | .vmem => 20
  | .smem => 0
  | _ => 0

abbrev bufTy : (tb : Table) → Fin (tcTables nBuf tb) → BufTy
  | .hbm, ⟨0, _⟩ => ⟨S2x3072x8192, .bf16⟩
  | .hbm, ⟨1, _⟩ => ⟨S8192, .bf16⟩
  | .hbm, ⟨2, _⟩ => ⟨S8192x3072, .fp8e4m3⟩
  | .hbm, ⟨3, _⟩ => ⟨S3072, .f32⟩
  | .hbm, ⟨4, _⟩ => ⟨S2x3072, .i32⟩
  | .hbm, ⟨5, _⟩ => ⟨S1x128, .f32⟩
  | .hbm, ⟨6, _⟩ => ⟨S6144x8192, .bf16⟩
  | .hbm, ⟨7, _⟩ => ⟨S1x8192, .bf16⟩
  | .hbm, ⟨8, _⟩ => ⟨S1x3072, .f32⟩
  | .hbm, ⟨9, _⟩ => ⟨S24x2x128, .i32⟩
  | .hbm, ⟨10, _⟩ => ⟨S6144x8x128, .bf16⟩
  | .hbm, ⟨11, _⟩ => ⟨S6144x8x128, .bf16⟩
  | .hbm, ⟨12, _⟩ => ⟨S6144x8x128, .bf16⟩
  | .hbm, ⟨13, _⟩ => ⟨S6144x8192, .fp8e4m3⟩
  | .hbm, ⟨14, _⟩ => ⟨S6144x1, .f32⟩
  | .local _ .vmem, ⟨0, _⟩ => ⟨S256x8192, .bf16⟩
  | .local _ .vmem, ⟨1, _⟩ => ⟨S256x8192, .bf16⟩
  | .local _ .vmem, ⟨2, _⟩ => ⟨S1x8192, .bf16⟩
  | .local _ .vmem, ⟨3, _⟩ => ⟨S8192x3072, .fp8e4m3⟩
  | .local _ .vmem, ⟨4, _⟩ => ⟨S1x3072, .f32⟩
  | .local _ .vmem, ⟨5, _⟩ => ⟨S1x2x128, .i32⟩
  | .local _ .vmem, ⟨6, _⟩ => ⟨S1x2x128, .i32⟩
  | .local _ .vmem, ⟨7, _⟩ => ⟨S1x128, .f32⟩
  | .local _ .vmem, ⟨8, _⟩ => ⟨S256x8x128, .bf16⟩
  | .local _ .vmem, ⟨9, _⟩ => ⟨S256x8x128, .bf16⟩
  | .local _ .vmem, ⟨10, _⟩ => ⟨S256x8x128, .bf16⟩
  | .local _ .vmem, ⟨11, _⟩ => ⟨S256x8x128, .bf16⟩
  | .local _ .vmem, ⟨12, _⟩ => ⟨S256x8x128, .bf16⟩
  | .local _ .vmem, ⟨13, _⟩ => ⟨S256x8x128, .bf16⟩
  | .local _ .vmem, ⟨14, _⟩ => ⟨S256x8192, .fp8e4m3⟩
  | .local _ .vmem, ⟨15, _⟩ => ⟨S256x8192, .fp8e4m3⟩
  | .local _ .vmem, ⟨16, _⟩ => ⟨S256x1, .f32⟩
  | .local _ .vmem, ⟨17, _⟩ => ⟨S256x1, .f32⟩
  | .local _ .vmem, ⟨18, _⟩ => ⟨S256x128, .f32⟩
  | .local _ .vmem, ⟨19, _⟩ => ⟨S256x128, .f32⟩
  | _, _ => ⟨S2x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_54 : BitVec 32 := 0#32
  let c8_i32 : BitVec 32 := 8#32
  let v156 : BitVec 32 := Scalar.addi c0_i32_54 c8_i32
  let c1_i32_55 : BitVec 32 := 1#32
  ⟨c0_i32_54, v156, c1_i32_55⟩
def k0_mult1 (k0_t1 : Fin k0_t1_loop.trips) : BitVec 32 :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  v11005
def k0_off1 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11009 : Index := Scalar.indexCast v11006
  let c0_5859 : Index := 0#32
  ![v11009.toNat, 0]
def k0_off2 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11022 : Index := Scalar.indexCast v11006
  let c128_5862 : Index := 128#32
  ![v11022.toNat, 128]
def k0_off3 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11035 : Index := Scalar.indexCast v11006
  let c256_5865 : Index := 256#32
  ![v11035.toNat, 256]
def k0_off4 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11048 : Index := Scalar.indexCast v11006
  let c384 : Index := 384#32
  ![v11048.toNat, 384]
def k0_off5 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11061 : Index := Scalar.indexCast v11006
  let c512_5870 : Index := 512#32
  ![v11061.toNat, 512]
def k0_off6 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11074 : Index := Scalar.indexCast v11006
  let c640 : Index := 640#32
  ![v11074.toNat, 640]
def k0_off7 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11087 : Index := Scalar.indexCast v11006
  let c768_5875 : Index := 768#32
  ![v11087.toNat, 768]
def k0_off8 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11100 : Index := Scalar.indexCast v11006
  let c896 : Index := 896#32
  ![v11100.toNat, 896]
def k0_off9 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11113 : Index := Scalar.indexCast v11006
  let c1024_5880 : Index := 1024#32
  ![v11113.toNat, 1024]
def k0_off10 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11126 : Index := Scalar.indexCast v11006
  let c1152 : Index := 1152#32
  ![v11126.toNat, 1152]
def k0_off11 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11139 : Index := Scalar.indexCast v11006
  let c1280_5885 : Index := 1280#32
  ![v11139.toNat, 1280]
def k0_off12 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11152 : Index := Scalar.indexCast v11006
  let c1408 : Index := 1408#32
  ![v11152.toNat, 1408]
def k0_off13 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11165 : Index := Scalar.indexCast v11006
  let c1536_5890 : Index := 1536#32
  ![v11165.toNat, 1536]
def k0_off14 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11178 : Index := Scalar.indexCast v11006
  let c1664 : Index := 1664#32
  ![v11178.toNat, 1664]
def k0_off15 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11191 : Index := Scalar.indexCast v11006
  let c1792_5895 : Index := 1792#32
  ![v11191.toNat, 1792]
def k0_off16 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11204 : Index := Scalar.indexCast v11006
  let c1920 : Index := 1920#32
  ![v11204.toNat, 1920]
def k0_off17 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11217 : Index := Scalar.indexCast v11006
  let c2048_5900 : Index := 2048#32
  ![v11217.toNat, 2048]
def k0_off18 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11230 : Index := Scalar.indexCast v11006
  let c2176 : Index := 2176#32
  ![v11230.toNat, 2176]
def k0_off19 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11243 : Index := Scalar.indexCast v11006
  let c2304_5905 : Index := 2304#32
  ![v11243.toNat, 2304]
def k0_off20 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11256 : Index := Scalar.indexCast v11006
  let c2432 : Index := 2432#32
  ![v11256.toNat, 2432]
def k0_off21 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11269 : Index := Scalar.indexCast v11006
  let c2560_5910 : Index := 2560#32
  ![v11269.toNat, 2560]
def k0_off22 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11282 : Index := Scalar.indexCast v11006
  let c2688 : Index := 2688#32
  ![v11282.toNat, 2688]
def k0_off23 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11295 : Index := Scalar.indexCast v11006
  let c2816_5915 : Index := 2816#32
  ![v11295.toNat, 2816]
def k0_off24 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11308 : Index := Scalar.indexCast v11006
  let c2944 : Index := 2944#32
  ![v11308.toNat, 2944]
def k0_off25 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11321 : Index := Scalar.indexCast v11006
  let c3072 : Index := 3072#32
  ![v11321.toNat, 3072]
def k0_off26 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11334 : Index := Scalar.indexCast v11006
  let c3200 : Index := 3200#32
  ![v11334.toNat, 3200]
def k0_off27 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11347 : Index := Scalar.indexCast v11006
  let c3328 : Index := 3328#32
  ![v11347.toNat, 3328]
def k0_off28 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11360 : Index := Scalar.indexCast v11006
  let c3456 : Index := 3456#32
  ![v11360.toNat, 3456]
def k0_off29 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11373 : Index := Scalar.indexCast v11006
  let c3584 : Index := 3584#32
  ![v11373.toNat, 3584]
def k0_off30 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11386 : Index := Scalar.indexCast v11006
  let c3712 : Index := 3712#32
  ![v11386.toNat, 3712]
def k0_off31 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11399 : Index := Scalar.indexCast v11006
  let c3840 : Index := 3840#32
  ![v11399.toNat, 3840]
def k0_off32 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11412 : Index := Scalar.indexCast v11006
  let c3968 : Index := 3968#32
  ![v11412.toNat, 3968]
def k0_off33 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11425 : Index := Scalar.indexCast v11006
  let c4096 : Index := 4096#32
  ![v11425.toNat, 4096]
def k0_off34 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11438 : Index := Scalar.indexCast v11006
  let c4224 : Index := 4224#32
  ![v11438.toNat, 4224]
def k0_off35 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11451 : Index := Scalar.indexCast v11006
  let c4352 : Index := 4352#32
  ![v11451.toNat, 4352]
def k0_off36 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11464 : Index := Scalar.indexCast v11006
  let c4480 : Index := 4480#32
  ![v11464.toNat, 4480]
def k0_off37 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11477 : Index := Scalar.indexCast v11006
  let c4608 : Index := 4608#32
  ![v11477.toNat, 4608]
def k0_off38 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11490 : Index := Scalar.indexCast v11006
  let c4736 : Index := 4736#32
  ![v11490.toNat, 4736]
def k0_off39 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11503 : Index := Scalar.indexCast v11006
  let c4864 : Index := 4864#32
  ![v11503.toNat, 4864]
def k0_off40 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11516 : Index := Scalar.indexCast v11006
  let c4992 : Index := 4992#32
  ![v11516.toNat, 4992]
def k0_off41 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11529 : Index := Scalar.indexCast v11006
  let c5120 : Index := 5120#32
  ![v11529.toNat, 5120]
def k0_off42 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11542 : Index := Scalar.indexCast v11006
  let c5248 : Index := 5248#32
  ![v11542.toNat, 5248]
def k0_off43 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11555 : Index := Scalar.indexCast v11006
  let c5376 : Index := 5376#32
  ![v11555.toNat, 5376]
def k0_off44 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11568 : Index := Scalar.indexCast v11006
  let c5504 : Index := 5504#32
  ![v11568.toNat, 5504]
def k0_off45 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11581 : Index := Scalar.indexCast v11006
  let c5632 : Index := 5632#32
  ![v11581.toNat, 5632]
def k0_off46 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11594 : Index := Scalar.indexCast v11006
  let c5760 : Index := 5760#32
  ![v11594.toNat, 5760]
def k0_off47 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11607 : Index := Scalar.indexCast v11006
  let c5888 : Index := 5888#32
  ![v11607.toNat, 5888]
def k0_off48 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11620 : Index := Scalar.indexCast v11006
  let c6016 : Index := 6016#32
  ![v11620.toNat, 6016]
def k0_off49 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11633 : Index := Scalar.indexCast v11006
  let c6144 : Index := 6144#32
  ![v11633.toNat, 6144]
def k0_off50 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11646 : Index := Scalar.indexCast v11006
  let c6272 : Index := 6272#32
  ![v11646.toNat, 6272]
def k0_off51 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11659 : Index := Scalar.indexCast v11006
  let c6400 : Index := 6400#32
  ![v11659.toNat, 6400]
def k0_off52 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11672 : Index := Scalar.indexCast v11006
  let c6528 : Index := 6528#32
  ![v11672.toNat, 6528]
def k0_off53 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11685 : Index := Scalar.indexCast v11006
  let c6656 : Index := 6656#32
  ![v11685.toNat, 6656]
def k0_off54 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11698 : Index := Scalar.indexCast v11006
  let c6784 : Index := 6784#32
  ![v11698.toNat, 6784]
def k0_off55 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11711 : Index := Scalar.indexCast v11006
  let c6912 : Index := 6912#32
  ![v11711.toNat, 6912]
def k0_off56 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11724 : Index := Scalar.indexCast v11006
  let c7040 : Index := 7040#32
  ![v11724.toNat, 7040]
def k0_off57 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11737 : Index := Scalar.indexCast v11006
  let c7168 : Index := 7168#32
  ![v11737.toNat, 7168]
def k0_off58 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11750 : Index := Scalar.indexCast v11006
  let c7296 : Index := 7296#32
  ![v11750.toNat, 7296]
def k0_off59 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11763 : Index := Scalar.indexCast v11006
  let c7424 : Index := 7424#32
  ![v11763.toNat, 7424]
def k0_off60 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11776 : Index := Scalar.indexCast v11006
  let c7552 : Index := 7552#32
  ![v11776.toNat, 7552]
def k0_off61 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11789 : Index := Scalar.indexCast v11006
  let c7680 : Index := 7680#32
  ![v11789.toNat, 7680]
def k0_off62 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11802 : Index := Scalar.indexCast v11006
  let c7808 : Index := 7808#32
  ![v11802.toNat, 7808]
def k0_off63 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11815 : Index := Scalar.indexCast v11006
  let c7936 : Index := 7936#32
  ![v11815.toNat, 7936]
def k0_off64 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11828 : Index := Scalar.indexCast v11006
  let c8064 : Index := 8064#32
  ![v11828.toNat, 8064]
def k0_off65 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11941 : Index := Scalar.indexCast v11006
  let c0_6037 : Index := 0#32
  ![v11941.toNat, 0]
def k0_off66 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c32_i32 : BitVec 32 := 32#32
  let v11005 : BitVec 32 := Scalar.muli arg14 c32_i32
  let v11006 : BitVec 32 := v11005
  let v11943 : Index := Scalar.indexCast v11006
  let c0_6038 : Index := 0#32
  ![v11943.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x8192 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x3072x8192 : Shape := ⟨3, ![2, 3072, 8192]⟩
abbrev S8192 : Shape := ⟨1, ![8192]⟩
abbrev S8192x3072 : Shape := ⟨2, ![8192, 3072]⟩
abbrev S3072 : Shape := ⟨1, ![3072]⟩
abbrev S2x3072 : Shape := ⟨2, ![2, 3072]⟩
abbrev S64 : Shape := ⟨1, ![64]⟩
abbrev S1x64 : Shape := ⟨2, ![1, 64]⟩
abbrev S254 : Shape := ⟨1, ![254]⟩
abbrev S1x254 : Shape := ⟨2, ![1, 254]⟩
abbrev S6144x8192 : Shape := ⟨2, ![6144, 8192]⟩
abbrev S1x8192 : Shape := ⟨2, ![1, 8192]⟩
abbrev S1x3072 : Shape := ⟨2, ![1, 3072]⟩
abbrev S6144x1 : Shape := ⟨2, ![6144, 1]⟩
abbrev S6144x8x128 : Shape := ⟨3, ![6144, 8, 128]⟩
abbrev S6144 : Shape := ⟨1, ![6144]⟩
abbrev S6144x254 : Shape := ⟨2, ![6144, 254]⟩
abbrev S6144x3072 : Shape := ⟨2, ![6144, 3072]⟩
abbrev S6144x64 : Shape := ⟨2, ![6144, 64]⟩
abbrev S6144x1x64 : Shape := ⟨3, ![6144, 1, 64]⟩
abbrev S6144x1024 : Shape := ⟨2, ![6144, 1024]⟩
abbrev S6144x8x64x2 : Shape := ⟨4, ![6144, 8, 64, 2]⟩
abbrev S6144x8x64x1 : Shape := ⟨4, ![6144, 8, 64, 1]⟩
abbrev S6144x8x64 : Shape := ⟨3, ![6144, 8, 64]⟩

abbrev nBuf : Space → Nat
  | .hbm => 18
  | .vmem => 12
  | .smem => 0
  | _ => 0

abbrev bufTy : (tb : Table) → Fin (tcTables nBuf tb) → BufTy
  | .hbm, ⟨0, _⟩ => ⟨S2x3072x8192, .bf16⟩
  | .hbm, ⟨1, _⟩ => ⟨S8192, .bf16⟩
  | .hbm, ⟨2, _⟩ => ⟨S8192x3072, .fp8e4m3⟩
  | .hbm, ⟨3, _⟩ => ⟨S3072, .f32⟩
  | .hbm, ⟨4, _⟩ => ⟨S2x3072, .i32⟩
  | .hbm, ⟨5, _⟩ => ⟨S64, .f32⟩
  | .hbm, ⟨6, _⟩ => ⟨S1x64, .f32⟩
  | .hbm, ⟨7, _⟩ => ⟨S254, .f32⟩
  | .hbm, ⟨8, _⟩ => ⟨S1x254, .f32⟩
  | .hbm, ⟨9, _⟩ => ⟨S6144x8192, .bf16⟩
  | .hbm, ⟨10, _⟩ => ⟨S1x8192, .bf16⟩
  | .hbm, ⟨11, _⟩ => ⟨S1x3072, .f32⟩
  | .hbm, ⟨12, _⟩ => ⟨S6144x1, .i32⟩
  | .hbm, ⟨13, _⟩ => ⟨S6144x8x128, .bf16⟩
  | .hbm, ⟨14, _⟩ => ⟨S6144x8x128, .bf16⟩
  | .hbm, ⟨15, _⟩ => ⟨S6144x8x128, .bf16⟩
  | .hbm, ⟨16, _⟩ => ⟨S6144x8192, .fp8e4m3⟩
  | .hbm, ⟨17, _⟩ => ⟨S6144x1, .f32⟩
  | .local _ .vmem, ⟨0, _⟩ => ⟨S6144x8192, .bf16⟩
  | .local _ .vmem, ⟨1, _⟩ => ⟨S1x8192, .bf16⟩
  | .local _ .vmem, ⟨2, _⟩ => ⟨S8192x3072, .fp8e4m3⟩
  | .local _ .vmem, ⟨3, _⟩ => ⟨S1x3072, .f32⟩
  | .local _ .vmem, ⟨4, _⟩ => ⟨S6144x1, .i32⟩
  | .local _ .vmem, ⟨5, _⟩ => ⟨S1x64, .f32⟩
  | .local _ .vmem, ⟨6, _⟩ => ⟨S1x254, .f32⟩
  | .local _ .vmem, ⟨7, _⟩ => ⟨S6144x8x128, .bf16⟩
  | .local _ .vmem, ⟨8, _⟩ => ⟨S6144x8x128, .bf16⟩
  | .local _ .vmem, ⟨9, _⟩ => ⟨S6144x8x128, .bf16⟩
  | .local _ .vmem, ⟨10, _⟩ => ⟨S6144x8192, .fp8e4m3⟩
  | .local _ .vmem, ⟨11, _⟩ => ⟨S6144x1, .f32⟩
  | _, _ => ⟨S2x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6144x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x254 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x8x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x8192 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelFrame.lean ====
/- The frame of the kernel as printed: from any memory, every execution ends with the five arguments unchanged and every
   counter at zero. What the kernel writes in its outputs is named nowhere here: each output buffer is owned at some
   contents before the body and at some contents after it. `frame` is the theorem. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments, from the pipeline's final states -/

/-- The arguments end unchanged in any run whose final states satisfy the pipeline's `FramePost` over proof data that start from
    the arrays as the region finds them: a staged input is never written back, and every other argument is no window's array. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x3072 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x8x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x8192 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1

/-- The invariant between points: the two scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 10912000 in
/-- The body on whole staging buffers, the inputs' at known contents and the outputs' and the scratch at any: it ends with the
    inputs' as they were, and the outputs' and the scratch at some contents. -/
theorem body_run (c : Dev nD) (i : grid0.Coords) (arg1 : Memref sig .tc .vmem S256x8192 .bf16) (harg1 : arg1.IsWhole) (arg2 : Memref sig .tc .vmem S1x8192 .bf16) (harg2 : arg2.IsWhole) (arg3 : Memref sig .tc .vmem S8192x3072 .fp8e4m3) (harg3 : arg3.IsWhole) (arg4 : Memref sig .tc .vmem S1x3072 .f32) (harg4 : arg4.IsWhole) (arg5 : Memref sig .tc .vmem S1x2x128 .i32) (harg5 : arg5.IsWhole) (arg6 : Memref sig .tc .vmem S1x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x128 .f32) (harg12 : arg12.IsWhole) (arg13 : Memref sig .tc .vmem S256x128 .f32) (harg13 : arg13.IsWhole)
    (x0 : Vec F S256x8192 .bf16) (x1 : Vec F S1x8192 .bf16) (x2 : Vec F S8192x3072 .fp8e4m3) (x3 : Vec F S1x3072 .f32) (x4 : Vec F S1x2x128 .i32) (x5 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qkv_fused i arg1 harg1 arg2 harg2 arg3 harg3 arg4 harg4 arg5 harg5 arg6 harg6 arg7 harg7 arg8 harg8 arg9 harg9 arg10 harg10 arg11 harg11 arg12 harg12 arg13 harg13) K := by
    intro E K
    simp only [cc0_qkv_fused_eq_skeleton]; unfold cc0_qkv_fused_skel
    simp only [k0_part336_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part337_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part338_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part339_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part340_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

/-! ## The pipeline's proof data -/

/-- The output windows, of whose contents nothing is stated: 6 to 10. -/
def forgets0 : Fin 11 → Bool := fun w => w.val == 6 || w.val == 7 || w.val == 8 || w.val == 9 || w.val == 10

/-- The pipeline's proof data on core `c`: the arrays as the region finds them; after the body at point `t` each input's
    buffer holds its block, and the outputs' contents are unnamed; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves in the input windows, one by one. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
/-- The body at any point: the inputs' buffers hold their blocks, so `body_run` applies; the scratch comes from the invariant
    and goes back to it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: `sound_body` restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: `run_main`'s statement, and every semaphore counter at zero in every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every fair execution of the program ends, with every input array of the pipeline unchanged, nothing stated of the outputs,
    and every other unscoped buffer as the region found it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame, for any values: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.Run.lean ====
/-
  The kernel body run once at a symbolic grid point: on whole staging buffers, the inputs at their contents, the five
  outputs and the two scratch tables at anything, the body ends with the inputs as they were and each output holding
  the pieces its stores wrote. The lists of pieces are the witness the symbolic run finds.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 10912000 in
/-- The body's run. The pieces left in the outputs are functions of what the code and scale buffers held on entry,
    because the loop over the row groups writes them in place. -/
noncomputable def run (c : Dev nD) (i : grid0.Coords) (arg1 : Memref sig .tc .vmem S256x8192 .bf16) (harg1 : arg1.IsWhole) (arg2 : Memref sig .tc .vmem S1x8192 .bf16) (harg2 : arg2.IsWhole) (arg3 : Memref sig .tc .vmem S8192x3072 .fp8e4m3) (harg3 : arg3.IsWhole) (arg4 : Memref sig .tc .vmem S1x3072 .f32) (harg4 : arg4.IsWhole) (arg5 : Memref sig .tc .vmem S1x2x128 .i32) (harg5 : arg5.IsWhole) (arg6 : Memref sig .tc .vmem S1x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x128 .f32) (harg12 : arg12.IsWhole) (arg13 : Memref sig .tc .vmem S256x128 .f32) (harg13 : arg13.IsWhole)
    (x0 : Vec F S256x8192 .bf16) (x1 : Vec F S1x8192 .bf16) (x2 : Vec F S8192x3072 .fp8e4m3) (x3 : Vec F S1x3072 .f32) (x4 : Vec F S1x2x128 .i32) (x5 : Vec F S1x128 .f32) :
    Σ' (L7 : BufTy.Contents (Elt F) arg10.view.ty → BufTy.Contents (Elt F) arg11.view.ty → List (View.Piece (Elt F) S256x8x128 .bf16)) (L8 : BufTy.Contents (Elt F) arg10.view.ty → BufTy.Contents (Elt F) arg11.view.ty → List (View.Piece (Elt F) S256x8x128 .bf16)) (L9 : BufTy.Contents (Elt F) arg10.view.ty → BufTy.Contents (Elt F) arg11.view.ty → List (View.Piece (Elt F) S256x8x128 .bf16)) (L10 : BufTy.Contents (Elt F) arg10.view.ty → BufTy.Contents (Elt F) arg11.view.ty → List (View.Piece (Elt F) S256x8192 .fp8e4m3)),
      { L11 : BufTy.Contents (Elt F) arg10.view.ty → BufTy.Contents (Elt F) arg11.view.ty → List (View.Piece (Elt F) S256x1 .f32) //
      ∀ (E : Set ℕ) (K : PUnit → sProp 𝕄) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) f7 (L7 f10 f11)) ∗ (arg8.view.loc (c : Thread nD τ) ↦[arg8.view.set]{fullShare} arg8.view.writes (Elt F) f8 (L8 f10 f11)) ∗ (arg9.view.loc (c : Thread nD τ) ↦[arg9.view.set]{fullShare} arg9.view.writes (Elt F) f9 (L9 f10 f11)) ∗ (arg10.view.loc (c : Thread nD τ) ↦[arg10.view.set]{fullShare} arg10.view.writes (Elt F) f10 (L10 f10 f11)) ∗ (arg11.view.loc (c : Thread nD τ) ↦[arg11.view.set]{fullShare} arg11.view.writes (Elt F) f11 (L11 f10 f11)) ∗ (∃ d, owns (c : Thread nD τ) arg12 fullShare d) ∗ (∃ d, owns (c : Thread nD τ) arg13 fullShare d)) -∗ K ⟨⟩))
          ⊢ wp frame (wpE (defs₀ (F := F)) Variants.none c none) E (cc0_qkv_fused i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K f7 f8 f9 f10 f11 => ?run⟩
  case run =>
    simp only [cc0_qkv_fused_eq_skeleton]; unfold cc0_qkv_fused_skel
    simp only [k0_part336_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part337_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part338_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part339_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part340_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, H7, H8, H9, H10, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexact H6
    isplitl [H7]
    · iexact H7
    isplitl [H8]
    · iexact H8
    isplitl [H9]
    · iexact H9
    isplitl [H10]
    · iexact H10
    isplitl [HS0]
    · iexists _, _; isplitr; swap; · iexact HS0
      ipureintro; rfl
    iexists _, _; isplitr; swap; · iexact HS1
    ipureintro; rfl

end Cert.KernelIdeal.Body

end
-- ==== Proof.Trip.lean ====
/-
  One trip of the loop over the row groups, in closed form: what it reads of the activations, the row scale it derives,
  the pieces it stores into the codes, the scales and the two rotation tables.
-/
module

public import proofs.«01_k».proof.Proof.Run
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

variable (arg1 : Memref sig .tc .vmem S256x8192 .bf16) (arg2 : Memref sig .tc .vmem S1x8192 .bf16)
  (X1 : BufTy.Contents (Elt F) arg1.view.ty) (X2 : BufTy.Contents (Elt F) arg2.view.ty) (k : Fin k0_t1_loop.trips)

/-- The 64 lane chunks, in the order they are visited. -/
def chunks : List (Fin 64) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩, ⟨32, by decide⟩, ⟨33, by decide⟩, ⟨34, by decide⟩, ⟨35, by decide⟩, ⟨36, by decide⟩, ⟨37, by decide⟩, ⟨38, by decide⟩, ⟨39, by decide⟩, ⟨40, by decide⟩, ⟨41, by decide⟩, ⟨42, by decide⟩, ⟨43, by decide⟩, ⟨44, by decide⟩, ⟨45, by decide⟩, ⟨46, by decide⟩, ⟨47, by decide⟩, ⟨48, by decide⟩, ⟨49, by decide⟩, ⟨50, by decide⟩, ⟨51, by decide⟩, ⟨52, by decide⟩, ⟨53, by decide⟩, ⟨54, by decide⟩, ⟨55, by decide⟩, ⟨56, by decide⟩, ⟨57, by decide⟩, ⟨58, by decide⟩, ⟨59, by decide⟩, ⟨60, by decide⟩, ⟨61, by decide⟩, ⟨62, by decide⟩, ⟨63, by decide⟩]
/-- The same, last first: the order in which the list of stores holds them. -/
def chunksR : List (Fin 64) := [⟨63, by decide⟩, ⟨62, by decide⟩, ⟨61, by decide⟩, ⟨60, by decide⟩, ⟨59, by decide⟩, ⟨58, by decide⟩, ⟨57, by decide⟩, ⟨56, by decide⟩, ⟨55, by decide⟩, ⟨54, by decide⟩, ⟨53, by decide⟩, ⟨52, by decide⟩, ⟨51, by decide⟩, ⟨50, by decide⟩, ⟨49, by decide⟩, ⟨48, by decide⟩, ⟨47, by decide⟩, ⟨46, by decide⟩, ⟨45, by decide⟩, ⟨44, by decide⟩, ⟨43, by decide⟩, ⟨42, by decide⟩, ⟨41, by decide⟩, ⟨40, by decide⟩, ⟨39, by decide⟩, ⟨38, by decide⟩, ⟨37, by decide⟩, ⟨36, by decide⟩, ⟨35, by decide⟩, ⟨34, by decide⟩, ⟨33, by decide⟩, ⟨32, by decide⟩, ⟨31, by decide⟩, ⟨30, by decide⟩, ⟨29, by decide⟩, ⟨28, by decide⟩, ⟨27, by decide⟩, ⟨26, by decide⟩, ⟨25, by decide⟩, ⟨24, by decide⟩, ⟨23, by decide⟩, ⟨22, by decide⟩, ⟨21, by decide⟩, ⟨20, by decide⟩, ⟨19, by decide⟩, ⟨18, by decide⟩, ⟨17, by decide⟩, ⟨16, by decide⟩, ⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]

/-- Where row group `k`'s lane chunk `c` begins. -/
def cOff (k : Fin k0_t1_loop.trips) (c : Fin 64) : Fin 2 → ℕ := ![k0_off1 k 0, 128 * c.val]

theorem cOff_eq (c : Fin 64) : cOff k c = ![32 * k.val, 128 * c.val] := by
  have h := congrFun (k0_off1_eq k) 0
  unfold cOff; rw [h]; rfl

theorem k_lt : k.val < 8 := Nat.lt_of_lt_of_le k.isLt k0_t1_abs.2.1

theorem cOff_inb (c : Fin 64) : ∀ a, cOff k c a + S32x128.size a ≤ S256x8192.size a := by
  rw [cOff_eq]; have := k_lt k; intro a
  match a with
  | ⟨0, _⟩ => show 32 * k.val + 32 ≤ 256; omega
  | ⟨1, _⟩ => show 128 * c.val + 128 ≤ 8192; omega

theorem nOff_inb (c : Fin 64) : ∀ a, (![0, 128 * c.val] : Fin 2 → ℕ) a + S1x128.size a ≤ S1x8192.size a := by
  intro a
  match a with
  | ⟨0, _⟩ => show 0 + 1 ≤ 1; omega
  | ⟨1, _⟩ => show 128 * c.val + 128 ≤ 8192; omega

/-- A chunk of activations of row group `k`, -/
def xC (c : Fin 64) : FVec F S32x128 .f32 :=
  extf .f32 (shapeCast S32x128 (View.readAt (Elt F) arg1.view (Rect.unit (s := S256x8192) (cOff k c) S32x128.size (cOff_inb k c)).toLoadRect X1 : FVec F S32x128 .bf16) shapeCasts_S32x128_S32x128) bitsLt_bf16_f32
/-- and the same lanes of the norm's weight, on every row. -/
def nC (c : Fin 64) : FVec F S32x128 .f32 :=
  broadcastTo S32x128 (extf .f32 (shapeCast S1x128 (View.readAt (Elt F) arg2.view (Rect.unit (s := S1x8192) ![0, 128 * c.val] S1x128.size (nOff_inb c)).toLoadRect X2 : FVec F S1x128 .bf16) shapeCasts_S1x128_S1x128) bitsLt_bf16_f32) broadcasts_S1x128_S32x128

/-- The lane-wise sum of squares over the chunks `l`. -/
def ssqOn (l : List (Fin 64)) : FVec F S32x128 .f32 :=
  l.foldl (fun a c => addf a (mulf (xC arg1 X1 k c) (xC arg1 X1 k c))) (broadcast S32x128 (Scalar.ofBits .f32 0x00000000#32))
/-- The lane-wise largest magnitude of activation times weight over the chunks `l`. -/
def amaxOn (l : List (Fin 64)) : FVec F S32x128 .f32 :=
  l.foldl (fun a c => maximumf a (absf (mulf (xC arg1 X1 k c) (nC arg2 X2 c)))) (broadcast S32x128 (Scalar.ofBits .f32 0x00000000#32))

/-- The reciprocal root mean square of each row. -/
def rK : FVec F S32x1 .f32 :=
  rsqrt (addf (mulf (shapeCast S32x1 (multiReduction .add [1] S32 (ssqOn arg1 X1 k chunks) 0x00000000#32 reduces_S32x128_S32 (.inl rfl) rfl) shapeCasts_S32_S32x1) (broadcast S32x1 (Scalar.ofBits .f32 0x39000000#32))) (broadcast S32x1 (Scalar.ofBits .f32 0x3727C5AC#32)))
/-- The largest normed magnitude of each row over the format's largest value. -/
def zK : FVec F S32x1 .f32 :=
  mulf (mulf (shapeCast S32x1 (multiReduction .maximumf [1] S32 (amaxOn arg1 arg2 X1 X2 k chunks) 0xFF800000#32 reduces_S32x128_S32 (.inl rfl) rfl) shapeCasts_S32_S32x1) (rK arg1 X1 k)) (broadcast S32x1 (Scalar.ofBits .f32 0x3B124925#32))

/-- Whether the candidate power `p` may still grow by the factor `n`. -/
def up (z p : FVec F S32x1 .f32) (n : BitVec 32) : IVec S32x1 1 := cmpf .oge z (mulf p (broadcast S32x1 (Scalar.ofBits .f32 n)))
/-- One rung: the power, grown by `n` when it stays below `z`; -/
def rungP (z p : FVec F S32x1 .f32) (n : BitVec 32) : FVec F S32x1 .f32 :=
  select (up z p n) (mulf p (broadcast S32x1 (Scalar.ofBits .f32 n))) p
/-- and its reciprocal, shrunk by `w` on the same condition. -/
def rungQ (z p q : FVec F S32x1 .f32) (n w : BitVec 32) : FVec F S32x1 .f32 :=
  select (up z p n) (mulf q (broadcast S32x1 (Scalar.ofBits .f32 w))) q

/-- The power after the rungs, one definition a rung. -/
def p0 : FVec F S32x1 .f32 := broadcast S32x1 (Scalar.ofBits .f32 0x00800000#32)
def p1 (z : FVec F S32x1 .f32) : FVec F S32x1 .f32 := rungP z (p0 (F := F)) 0x7E800000#32
def p2 (z : FVec F S32x1 .f32) : FVec F S32x1 .f32 := rungP z (p1 z) 0x5F800000#32
def p3 (z : FVec F S32x1 .f32) : FVec F S32x1 .f32 := rungP z (p2 z) 0x4F800000#32
def p4 (z : FVec F S32x1 .f32) : FVec F S32x1 .f32 := rungP z (p3 z) 0x47800000#32
def p5 (z : FVec F S32x1 .f32) : FVec F S32x1 .f32 := rungP z (p4 z) 0x43800000#32
def p6 (z : FVec F S32x1 .f32) : FVec F S32x1 .f32 := rungP z (p5 z) 0x41800000#32
def p7 (z : FVec F S32x1 .f32) : FVec F S32x1 .f32 := rungP z (p6 z) 0x40800000#32
def p8 (z : FVec F S32x1 .f32) : FVec F S32x1 .f32 := rungP z (p7 z) 0x40000000#32
/-- Its reciprocal after the rungs. -/
def q0 : FVec F S32x1 .f32 := broadcast S32x1 (Scalar.ofBits .f32 0x7E800000#32)
def q1 (z : FVec F S32x1 .f32) : FVec F S32x1 .f32 := rungQ z (p0 (F := F)) (q0 (F := F)) 0x7E800000#32 0x00800000#32
def q2 (z : FVec F S32x1 .f32) : FVec F S32x1 .f32 := rungQ z (p1 z) (q1 z) 0x5F800000#32 0x1F800000#32
def q3 (z : FVec F S32x1 .f32) : FVec F S32x1 .f32 := rungQ z (p2 z) (q2 z) 0x4F800000#32 0x2F800000#32
def q4 (z : FVec F S32x1 .f32) : FVec F S32x1 .f32 := rungQ z (p3 z) (q3 z) 0x47800000#32 0x37800000#32
def q5 (z : FVec F S32x1 .f32) : FVec F S32x1 .f32 := rungQ z (p4 z) (q4 z) 0x43800000#32 0x3B800000#32
def q6 (z : FVec F S32x1 .f32) : FVec F S32x1 .f32 := rungQ z (p5 z) (q5 z) 0x41800000#32 0x3D800000#32
def q7 (z : FVec F S32x1 .f32) : FVec F S32x1 .f32 := rungQ z (p6 z) (q6 z) 0x40800000#32 0x3E800000#32
def q8 (z : FVec F S32x1 .f32) : FVec F S32x1 .f32 := rungQ z (p7 z) (q7 z) 0x40000000#32 0x3F000000#32

/-- Whether `z` lies in the range where a scale other than one is taken. -/
def whole (z : FVec F S32x1 .f32) : IVec S32x1 1 :=
  andi (cmpf .oge z (broadcast S32x1 (Scalar.ofBits .f32 0x00800000#32))) (cmpf .olt z (broadcast S32x1 (Scalar.ofBits .f32 0x7F800000#32)))
/-- The row scale, -/
def scaleV (z : FVec F S32x1 .f32) : FVec F S32x1 .f32 :=
  select (whole z) (mulf (p8 z) (broadcast S32x1 (Scalar.ofBits .f32 0x40000000#32))) (broadcast S32x1 (Scalar.ofBits .f32 0x3F800000#32))
/-- and its reciprocal. -/
def invV (z : FVec F S32x1 .f32) : FVec F S32x1 .f32 :=
  select (whole z) (mulf (q8 z) (broadcast S32x1 (Scalar.ofBits .f32 0x3F000000#32))) (broadcast S32x1 (Scalar.ofBits .f32 0x3F800000#32))

/-- The codes of one chunk. -/
def codeC (c : Fin 64) : FVec F S32x128 .fp8e4m3 :=
  truncf .fp8e4m3 (minimumf (broadcast S32x128 (Scalar.ofBits .f32 0x43E00000#32)) (maximumf (broadcast S32x128 (Scalar.ofBits .f32 0xC3E00000#32)) (mulf (mulf (xC arg1 X1 k c) (broadcastTo S32x128 (mulf (rK arg1 X1 k) (invV (zK arg1 arg2 X1 X2 k))) broadcasts_S32x1_S32x128)) (nC arg2 X2 c)))) bitsLt_fp8e4m3_f32
/-- The store of one chunk's codes. -/
def cPiece (c : Fin 64) : View.Piece (Elt F) S256x8192 .fp8e4m3 :=
  ⟨Rect.unit (cOff k c) S32x128.size (cOff_inb k c), codeC arg1 arg2 X1 X2 k c⟩
/-- A rotation table's rows times the row scale. -/
def tabK (T : Vec F S32x128 .f32) : FVec F S32x128 .f32 :=
  shapeCast S32x128 (mulf T (broadcastTo S32x128 (scaleV (zK arg1 arg2 X1 X2 k)) broadcasts_S32x1_S32x128)) shapeCasts_S32x128_S32x128

theorem r51_eq : trip_k0_t1.sl.r_51 arg1 X1 k = rK arg1 X1 k := rfl
theorem r52_eq : trip_k0_t1.sl.r_52 arg1 arg2 X1 X2 k = zK arg1 arg2 X1 X2 k := rfl
theorem r53_eq : trip_k0_t1.sl.r_53 arg1 arg2 X1 X2 k = p2 (zK arg1 arg2 X1 X2 k) := rfl
theorem r54_eq : trip_k0_t1.sl.r_54 arg1 arg2 X1 X2 k = q2 (zK arg1 arg2 X1 X2 k) := rfl
theorem r55_eq : trip_k0_t1.sl.r_55 arg1 arg2 X1 X2 k = mulf (p2 (zK arg1 arg2 X1 X2 k)) (broadcast S32x1 (Scalar.ofBits .f32 0x4F800000#32)) := rfl
theorem r56_eq : trip_k0_t1.sl.r_56 arg1 arg2 X1 X2 k = p7 (zK arg1 arg2 X1 X2 k) := by
  show k0_pay127 _ _ _ = _; rw [r52_eq, r53_eq, r55_eq]; rfl
theorem r57_eq : trip_k0_t1.sl.r_57 arg1 arg2 X1 X2 k = q7 (zK arg1 arg2 X1 X2 k) := by
  show k0_pay128 _ _ _ _ = _; rw [r52_eq, r53_eq, r54_eq, r55_eq]; rfl
theorem r58_eq : trip_k0_t1.sl.r_58 arg1 arg2 X1 X2 k = mulf (p7 (zK arg1 arg2 X1 X2 k)) (broadcast S32x1 (Scalar.ofBits .f32 0x40000000#32)) := by
  show k0_pay129 _ _ _ = _; rw [r52_eq, r53_eq, r55_eq]; rfl
theorem r59_eq : trip_k0_t1.sl.r_59 arg1 arg2 X1 X2 k = mulf (rK arg1 X1 k) (invV (zK arg1 arg2 X1 X2 k)) := by
  show k0_pay133 _ _ _ _ = _; rw [r51_eq, r52_eq, r57_eq, r58_eq]; rfl
theorem scale_eq : k0_pay132 (trip_k0_t1.sl.r_52 arg1 arg2 X1 X2 k) (trip_k0_t1.sl.r_56 arg1 arg2 X1 X2 k) (trip_k0_t1.sl.r_58 arg1 arg2 X1 X2 k) = scaleV (zK arg1 arg2 X1 X2 k) := by
  rw [r52_eq, r56_eq, r58_eq]; rfl

end Cert.KernelIdeal.Body

end
-- ==== Proof.TripPieces.lean ====
/-
  The pieces one trip stores, as lists in closed form.
-/
module

public import proofs.«01_k».proof.Proof.Trip
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

variable (𝒱 : Variants) (c : Dev nD) (bd : Option 𝒱.V) (i : grid0.Coords) (arg1 : Memref sig .tc .vmem S256x8192 .bf16) (harg1 : arg1.IsWhole) (arg2 : Memref sig .tc .vmem S1x8192 .bf16) (harg2 : arg2.IsWhole) (arg3 : Memref sig .tc .vmem S8192x3072 .fp8e4m3) (harg3 : arg3.IsWhole) (arg4 : Memref sig .tc .vmem S1x3072 .f32) (harg4 : arg4.IsWhole) (arg5 : Memref sig .tc .vmem S1x2x128 .i32) (harg5 : arg5.IsWhole) (arg6 : Memref sig .tc .vmem S1x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x128 .f32) (harg12 : arg12.IsWhole) (arg13 : Memref sig .tc .vmem S256x128 .f32) (harg13 : arg13.IsWhole)
  (v89 : FVec F S128x128 .f32) (v109 : FVec F S128x128 .f32) (v123 : FVec F S128x128 .f32) (v126 : IVec S128x128 32) (w0 : BitVec 32)
  (X1 : BufTy.Contents (Elt F) arg1.view.ty) (X2 : BufTy.Contents (Elt F) arg2.view.ty) (k : Fin k0_t1_loop.trips)
  (f10 : BufTy.Contents (Elt F) arg10.view.ty) (f11 : BufTy.Contents (Elt F) arg11.view.ty) (f12 : BufTy.Contents (Elt F) arg12.view.ty) (f13 : BufTy.Contents (Elt F) arg13.view.ty)

theorem cons_congr {α : Type*} {a b : α} {l m : List α} (h : a = b) (t : l = m) : a :: l = b :: m := by rw [h, t]

set_option maxHeartbeats 4000000 in
/-- The codes' pieces: one per lane chunk. -/
theorem trip_codes : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v89 v109 v123 v126 w0 X1 X2 k).1 f10 f11 f12 f13
    = chunksR.map (cPiece arg1 arg2 X1 X2 k) := by
  unfold trip_k0_t1; dsimp only
  unfold chunksR
  simp only [List.map_cons, List.map_nil]
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  refine cons_congr (by unfold cPiece codeC; rw [← r59_eq]; rfl) ?_
  rfl

set_option maxHeartbeats 4000000 in
/-- The scale's one piece. -/
theorem trip_scale : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v89 v109 v123 v126 w0 X1 X2 k).2.1 f10 f11 f12 f13
    = [⟨Rect.unit (k0_off65 k) S32x1.size (k0_off65_inb k), scaleV (zK arg1 arg2 X1 X2 k)⟩] := by
  unfold trip_k0_t1; dsimp only; rw [scale_eq]

set_option maxHeartbeats 4000000 in
/-- The cosine table's one piece, -/
theorem trip_cos : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v89 v109 v123 v126 w0 X1 X2 k).2.2.1 f10 f11 f12 f13
    = [⟨Rect.unit (k0_off66 k) S32x128.size (k0_off66_inb k), tabK arg1 arg2 X1 X2 k (View.readAt (Elt F) arg12.view (Rect.unit (s := S256x128) (k0_off66 k) S32x128.size (k0_off66_inb k)).toLoadRect f12)⟩] := by
  unfold trip_k0_t1; dsimp only; unfold k0_pay134; rw [scale_eq]; rfl

set_option maxHeartbeats 4000000 in
/-- and the sine table's. -/
theorem trip_sin : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v89 v109 v123 v126 w0 X1 X2 k).2.2.2.1 f10 f11 f12 f13
    = [⟨Rect.unit (k0_off66 k) S32x128.size (k0_off66_inb k), tabK arg1 arg2 X1 X2 k (View.readAt (Elt F) arg13.view (Rect.unit (s := S256x128) (k0_off66 k) S32x128.size (k0_off66_inb k)).toLoadRect f13)⟩] := by
  unfold trip_k0_t1; dsimp only; unfold k0_pay135; rw [scale_eq]; rfl

end Cert.KernelIdeal.Body

end
-- ==== Proof.Strips.lean ====
/-
  The pieces the body leaves in the three head outputs, in closed form: strip `o` of eight rows, pair `h` of heads.
-/
module

public import proofs.«01_k».proof.Proof.TripPieces
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

theorem wOff_inb (b : Fin 12) : ∀ a, (![0, 256 * b.val] : Fin 2 → ℕ) a + S8192x256.size a ≤ S8192x3072.size a := by
  intro a
  match a with
  | ⟨0, _⟩ => show 0 + 8192 ≤ 8192; omega
  | ⟨1, _⟩ => show 256 * b.val + 256 ≤ 3072; omega
theorem sOff_inb (b : Fin 12) : ∀ a, (![0, 256 * b.val] : Fin 2 → ℕ) a + S1x256.size a ≤ S1x3072.size a := by
  intro a
  match a with
  | ⟨0, _⟩ => show 0 + 1 ≤ 1; omega
  | ⟨1, _⟩ => show 256 * b.val + 256 ≤ 3072; omega
theorem tOff_inb (o : Fin 32) : ∀ a, (![8 * o.val, 0] : Fin 2 → ℕ) a + S8x128.size a ≤ S256x128.size a := by
  intro a
  match a with
  | ⟨0, _⟩ => show 8 * o.val + 8 ≤ 256; omega
  | ⟨1, _⟩ => show 0 + 128 ≤ 128; omega
theorem scOff_inb (o : Fin 32) : ∀ a, (![8 * o.val, 0] : Fin 2 → ℕ) a + S8x1.size a ≤ S256x1.size a := by
  intro a
  match a with
  | ⟨0, _⟩ => show 8 * o.val + 8 ≤ 256; omega
  | ⟨1, _⟩ => show 0 + 1 ≤ 1; omega
theorem hOff_inb (o : Fin 32) (h : Fin 4) : ∀ a, (![8 * o.val, 2 * h.val, 0] : Fin 3 → ℕ) a + S8x2x128.size a ≤ S256x8x128.size a := by
  intro a
  match a with
  | ⟨0, _⟩ => show 8 * o.val + 8 ≤ 256; omega
  | ⟨1, _⟩ => show 2 * h.val + 2 ≤ 8; omega
  | ⟨2, _⟩ => show 0 + 128 ≤ 128; omega
theorem slice0 (o : Fin 32) : S256x256.Slices ![8 * o.val, 0] S8x128 := ⟨rfl, by
  intro a
  match a with
  | ⟨0, _⟩ => show 8 * o.val + 8 ≤ 256; omega
  | ⟨1, _⟩ => show 0 + 128 ≤ 256; omega⟩
theorem slice1 (o : Fin 32) : S256x256.Slices ![8 * o.val, 128] S8x128 := ⟨rfl, by
  intro a
  match a with
  | ⟨0, _⟩ => show 8 * o.val + 8 ≤ 256; omega
  | ⟨1, _⟩ => show 128 + 128 ≤ 256; omega⟩

/-- 256 columns of the projection, times the columns' weight scales. -/
def accOf (d : Vec F S256x8192 .fp8e4m3) (w : Vec F S8192x256 .fp8e4m3) (s : Vec F S1x256 .f32) : FVec F S256x256 .f32 :=
  mulf (matmul (φ₁ := .fp8e4m3) (φ₂ := .fp8e4m3) dot_S256x8192_S8192x256_S256x256_1_0_0_1_n_n none (shapeCast S256x8192 d shapeCasts_S256x8192_S256x8192 : FVec F S256x8192 .fp8e4m3) (w : FVec F S8192x256 .fp8e4m3) (constant S256x256 .f32 0x00000000#32)) (broadcastTo S256x256 (shapeCast S1x256 s shapeCasts_S1x256_S1x256 : FVec F S1x256 .f32) broadcasts_S1x256_S256x256)

/-- One head of a strip, rotated by the tables' rows `C` and `S`. -/
def ropeS (a C S : FVec F S8x128 .f32) : FVec F S8x128 .f32 :=
  addf (mulf a C) (mulf (select (cmpi .eq (andi (iota .tc S8x128 32 [1] iota_S8x128_d1_w32) (broadcast S8x128 1#32)) (broadcast S8x128 0#32)) (dynamicRotate 1 127#32 none a rotates_S8x128_d1) (dynamicRotate 1 1#32 none a rotates_S8x128_d1)) S)
/-- Two heads side by side, narrowed. -/
def pairS (a b : FVec F S8x128 .f32) : FVec F S8x2x128 .bf16 :=
  concatenate S8x2x128 1 [⟨S8x1x128, shapeCast S8x1x128 (truncf .bf16 a bitsLt_bf16_f32) shapeCasts_S8x128_S8x1x128⟩, ⟨S8x1x128, shapeCast S8x1x128 (truncf .bf16 b bitsLt_bf16_f32) shapeCasts_S8x128_S8x1x128⟩] concatenates_S8x1x128_S8x1x128_S8x2x128_d1
/-- A strip of a rotated output, -/
def qStrip (acc : FVec F S256x256 .f32) (o : Fin 32) (C S : FVec F S8x128 .f32) : FVec F S8x2x128 .bf16 :=
  pairS (ropeS (extractStridedSlice S8x128 ![8 * o.val, 0] acc (slice0 o)) C S) (ropeS (extractStridedSlice S8x128 ![8 * o.val, 128] acc (slice1 o)) C S)
/-- and of the output that is only scaled. -/
def vStrip (acc : FVec F S256x256 .f32) (o : Fin 32) (s : Vec F S8x1 .f32) : FVec F S8x2x128 .bf16 :=
  pairS (mulf (extractStridedSlice S8x128 ![8 * o.val, 0] acc (slice0 o)) (broadcastTo S8x128 (shapeCast S8x1 s shapeCasts_S8x1_S8x1 : FVec F S8x1 .f32) broadcasts_S8x1_S8x128))
    (mulf (extractStridedSlice S8x128 ![8 * o.val, 128] acc (slice1 o)) (broadcastTo S8x128 (shapeCast S8x1 s shapeCasts_S8x1_S8x1 : FVec F S8x1 .f32) broadcasts_S8x1_S8x128))

variable (c : Dev nD) (i : grid0.Coords) (arg1 : Memref sig .tc .vmem S256x8192 .bf16) (harg1 : arg1.IsWhole) (arg2 : Memref sig .tc .vmem S1x8192 .bf16) (harg2 : arg2.IsWhole) (arg3 : Memref sig .tc .vmem S8192x3072 .fp8e4m3) (harg3 : arg3.IsWhole) (arg4 : Memref sig .tc .vmem S1x3072 .f32) (harg4 : arg4.IsWhole) (arg5 : Memref sig .tc .vmem S1x2x128 .i32) (harg5 : arg5.IsWhole) (arg6 : Memref sig .tc .vmem S1x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x128 .f32) (harg12 : arg12.IsWhole) (arg13 : Memref sig .tc .vmem S256x128 .f32) (harg13 : arg13.IsWhole)
  (x0 : Vec F S256x8192 .bf16) (x1 : Vec F S1x8192 .bf16) (x2 : Vec F S8192x3072 .fp8e4m3) (x3 : Vec F S1x3072 .f32) (x4 : Vec F S1x2x128 .i32) (x5 : Vec F S1x128 .f32) (f10 : BufTy.Contents (Elt F) arg10.view.ty) (f11 : BufTy.Contents (Elt F) arg11.view.ty)

/-- What the loop over the row groups stores, all eight trips. -/
abbrev loopL := pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (run.sl.r_6 c arg5 harg5 arg6 harg6 x4 x5) (run.sl.r_7 c arg5 harg5 arg6 harg6 x4 x5) (run.sl.r_8 c arg5 harg5 arg6 harg6 x4 x5) k0_pay241 (0#32) (harg1.unread x0) (harg2.unread x1) f10 f11 (arg12.view.writes (Elt F) arg12.view.junk (run.sl.HS0_2 c arg5 harg5 arg6 harg6 x4 x5)) (arg13.view.writes (Elt F) arg13.view.junk (run.sl.HS1_2 c arg5 harg5 arg6 harg6 x4 x5)) (Scf.trips k0_t1_loop.lb k0_t1_loop.ub k0_t1_loop.st)

/-- The codes as the projection reads them back, -/
def codesR : Vec F S256x8192 .fp8e4m3 := run.sl.v157 c i arg1 harg1 arg2 harg2 arg3 harg3 arg4 harg4 arg5 harg5 arg6 harg6 arg7 harg7 arg8 harg8 arg9 harg9 arg10 harg10 arg11 harg11 arg12 harg12 arg13 harg13 x0 x1 x4 x5 f10 f11
/-- a block of 256 columns of the projection, -/
def accB (b : Fin 12) : FVec F S256x256 .f32 :=
  accOf (codesR c i arg1 harg1 arg2 harg2 arg3 harg3 arg4 harg4 arg5 harg5 arg6 harg6 arg7 harg7 arg8 harg8 arg9 harg9 arg10 harg10 arg11 harg11 arg12 harg12 arg13 harg13 x0 x1 x4 x5 f10 f11) (View.readAt (Elt F) arg3.view (Rect.unit (s := S8192x3072) ![0, 256 * b.val] S8192x256.size (wOff_inb b)).toLoadRect (harg3.unread x2)) (View.readAt (Elt F) arg4.view (Rect.unit (s := S1x3072) ![0, 256 * b.val] S1x256.size (sOff_inb b)).toLoadRect (harg4.unread x3))
/-- a strip of the cosine table, -/
def cosR (o : Fin 32) : FVec F S8x128 .f32 :=
  arg12.view.readCov ((loopL c i arg1 harg1 arg2 harg2 arg3 harg3 arg4 harg4 arg5 harg5 arg6 harg6 arg7 harg7 arg8 harg8 arg9 harg9 arg10 harg10 arg11 harg11 arg12 harg12 arg13 harg13 x0 x1 x4 x5 f10 f11).2.2.1 ++ run.sl.HS0_2 c arg5 harg5 arg6 harg6 x4 x5) (Rect.unit (s := S256x128) ![8 * o.val, 0] S8x128.size (tOff_inb o)).toLoadRect
/-- of the sine table, -/
def sinR (o : Fin 32) : FVec F S8x128 .f32 :=
  arg13.view.readCov ((loopL c i arg1 harg1 arg2 harg2 arg3 harg3 arg4 harg4 arg5 harg5 arg6 harg6 arg7 harg7 arg8 harg8 arg9 harg9 arg10 harg10 arg11 harg11 arg12 harg12 arg13 harg13 x0 x1 x4 x5 f10 f11).2.2.2 ++ run.sl.HS1_2 c arg5 harg5 arg6 harg6 x4 x5) (Rect.unit (s := S256x128) ![8 * o.val, 0] S8x128.size (tOff_inb o)).toLoadRect
/-- and of the row scales. -/
def sclR (o : Fin 32) : Vec F S8x1 .f32 :=
  View.readAt (Elt F) arg11.view (Rect.unit (s := S256x1) ![8 * o.val, 0] S8x1.size (scOff_inb o)).toLoadRect (arg11.view.writes (Elt F) f11 (loopL c i arg1 harg1 arg2 harg2 arg3 harg3 arg4 harg4 arg5 harg5 arg6 harg6 arg7 harg7 arg8 harg8 arg9 harg9 arg10 harg10 arg11 harg11 arg12 harg12 arg13 harg13 x0 x1 x4 x5 f10 f11).2.1)

/-- A piece of a rotated output whose first column block is `b0`, -/
def qPiece (b0 : ℕ) (hb : b0 + 4 ≤ 12) (p : Fin 32 × Fin 4) : View.Piece (Elt F) S256x8x128 .bf16 :=
  ⟨Rect.unit ![8 * p.1.val, 2 * p.2.val, 0] S8x2x128.size (hOff_inb p.1 p.2), qStrip (accB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 ⟨b0 + p.2.val, by omega⟩) p.1 (cosR c i arg1 harg1 arg2 harg2 arg3 harg3 arg4 harg4 arg5 harg5 arg6 harg6 arg7 harg7 arg8 harg8 arg9 harg9 arg10 harg10 arg11 harg11 arg12 harg12 arg13 harg13 x0 x1 x4 x5 f10 f11 p.1) (sinR c i arg1 harg1 arg2 harg2 arg3 harg3 arg4 harg4 arg5 harg5 arg6 harg6 arg7 harg7 arg8 harg8 arg9 harg9 arg10 harg10 arg11 harg11 arg12 harg12 arg13 harg13 x0 x1 x4 x5 f10 f11 p.1)⟩
/-- and of the scaled one. -/
def vPiece (p : Fin 32 × Fin 4) : View.Piece (Elt F) S256x8x128 .bf16 :=
  ⟨Rect.unit ![8 * p.1.val, 2 * p.2.val, 0] S8x2x128.size (hOff_inb p.1 p.2), vStrip (accB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 ⟨8 + p.2.val, by omega⟩) p.1 (sclR c i arg1 harg1 arg2 harg2 arg3 harg3 arg4 harg4 arg5 harg5 arg6 harg6 arg7 harg7 arg8 harg8 arg9 harg9 arg10 harg10 arg11 harg11 arg12 harg12 arg13 harg13 x0 x1 x4 x5 f10 f11 p.1)⟩

/-- The strips and head pairs, last first. -/
def stripsR : List (Fin 32 × Fin 4) := [(⟨31, by decide⟩, ⟨3, by decide⟩), (⟨30, by decide⟩, ⟨3, by decide⟩), (⟨29, by decide⟩, ⟨3, by decide⟩), (⟨28, by decide⟩, ⟨3, by decide⟩), (⟨27, by decide⟩, ⟨3, by decide⟩), (⟨26, by decide⟩, ⟨3, by decide⟩), (⟨25, by decide⟩, ⟨3, by decide⟩), (⟨24, by decide⟩, ⟨3, by decide⟩), (⟨23, by decide⟩, ⟨3, by decide⟩), (⟨22, by decide⟩, ⟨3, by decide⟩), (⟨21, by decide⟩, ⟨3, by decide⟩), (⟨20, by decide⟩, ⟨3, by decide⟩), (⟨19, by decide⟩, ⟨3, by decide⟩), (⟨18, by decide⟩, ⟨3, by decide⟩), (⟨17, by decide⟩, ⟨3, by decide⟩), (⟨16, by decide⟩, ⟨3, by decide⟩), (⟨15, by decide⟩, ⟨3, by decide⟩), (⟨14, by decide⟩, ⟨3, by decide⟩), (⟨13, by decide⟩, ⟨3, by decide⟩), (⟨12, by decide⟩, ⟨3, by decide⟩), (⟨11, by decide⟩, ⟨3, by decide⟩), (⟨10, by decide⟩, ⟨3, by decide⟩), (⟨9, by decide⟩, ⟨3, by decide⟩), (⟨8, by decide⟩, ⟨3, by decide⟩), (⟨7, by decide⟩, ⟨3, by decide⟩), (⟨6, by decide⟩, ⟨3, by decide⟩), (⟨5, by decide⟩, ⟨3, by decide⟩), (⟨4, by decide⟩, ⟨3, by decide⟩), (⟨3, by decide⟩, ⟨3, by decide⟩), (⟨2, by decide⟩, ⟨3, by decide⟩), (⟨1, by decide⟩, ⟨3, by decide⟩), (⟨0, by decide⟩, ⟨3, by decide⟩), (⟨31, by decide⟩, ⟨2, by decide⟩), (⟨30, by decide⟩, ⟨2, by decide⟩), (⟨29, by decide⟩, ⟨2, by decide⟩), (⟨28, by decide⟩, ⟨2, by decide⟩), (⟨27, by decide⟩, ⟨2, by decide⟩), (⟨26, by decide⟩, ⟨2, by decide⟩), (⟨25, by decide⟩, ⟨2, by decide⟩), (⟨24, by decide⟩, ⟨2, by decide⟩), (⟨23, by decide⟩, ⟨2, by decide⟩), (⟨22, by decide⟩, ⟨2, by decide⟩), (⟨21, by decide⟩, ⟨2, by decide⟩), (⟨20, by decide⟩, ⟨2, by decide⟩), (⟨19, by decide⟩, ⟨2, by decide⟩), (⟨18, by decide⟩, ⟨2, by decide⟩), (⟨17, by decide⟩, ⟨2, by decide⟩), (⟨16, by decide⟩, ⟨2, by decide⟩), (⟨15, by decide⟩, ⟨2, by decide⟩), (⟨14, by decide⟩, ⟨2, by decide⟩), (⟨13, by decide⟩, ⟨2, by decide⟩), (⟨12, by decide⟩, ⟨2, by decide⟩), (⟨11, by decide⟩, ⟨2, by decide⟩), (⟨10, by decide⟩, ⟨2, by decide⟩), (⟨9, by decide⟩, ⟨2, by decide⟩), (⟨8, by decide⟩, ⟨2, by decide⟩), (⟨7, by decide⟩, ⟨2, by decide⟩), (⟨6, by decide⟩, ⟨2, by decide⟩), (⟨5, by decide⟩, ⟨2, by decide⟩), (⟨4, by decide⟩, ⟨2, by decide⟩), (⟨3, by decide⟩, ⟨2, by decide⟩), (⟨2, by decide⟩, ⟨2, by decide⟩), (⟨1, by decide⟩, ⟨2, by decide⟩), (⟨0, by decide⟩, ⟨2, by decide⟩), (⟨31, by decide⟩, ⟨1, by decide⟩), (⟨30, by decide⟩, ⟨1, by decide⟩), (⟨29, by decide⟩, ⟨1, by decide⟩), (⟨28, by decide⟩, ⟨1, by decide⟩), (⟨27, by decide⟩, ⟨1, by decide⟩), (⟨26, by decide⟩, ⟨1, by decide⟩), (⟨25, by decide⟩, ⟨1, by decide⟩), (⟨24, by decide⟩, ⟨1, by decide⟩), (⟨23, by decide⟩, ⟨1, by decide⟩), (⟨22, by decide⟩, ⟨1, by decide⟩), (⟨21, by decide⟩, ⟨1, by decide⟩), (⟨20, by decide⟩, ⟨1, by decide⟩), (⟨19, by decide⟩, ⟨1, by decide⟩), (⟨18, by decide⟩, ⟨1, by decide⟩), (⟨17, by decide⟩, ⟨1, by decide⟩), (⟨16, by decide⟩, ⟨1, by decide⟩), (⟨15, by decide⟩, ⟨1, by decide⟩), (⟨14, by decide⟩, ⟨1, by decide⟩), (⟨13, by decide⟩, ⟨1, by decide⟩), (⟨12, by decide⟩, ⟨1, by decide⟩), (⟨11, by decide⟩, ⟨1, by decide⟩), (⟨10, by decide⟩, ⟨1, by decide⟩), (⟨9, by decide⟩, ⟨1, by decide⟩), (⟨8, by decide⟩, ⟨1, by decide⟩), (⟨7, by decide⟩, ⟨1, by decide⟩), (⟨6, by decide⟩, ⟨1, by decide⟩), (⟨5, by decide⟩, ⟨1, by decide⟩), (⟨4, by decide⟩, ⟨1, by decide⟩), (⟨3, by decide⟩, ⟨1, by decide⟩), (⟨2, by decide⟩, ⟨1, by decide⟩), (⟨1, by decide⟩, ⟨1, by decide⟩), (⟨0, by decide⟩, ⟨1, by decide⟩), (⟨31, by decide⟩, ⟨0, by decide⟩), (⟨30, by decide⟩, ⟨0, by decide⟩), (⟨29, by decide⟩, ⟨0, by decide⟩), (⟨28, by decide⟩, ⟨0, by decide⟩), (⟨27, by decide⟩, ⟨0, by decide⟩), (⟨26, by decide⟩, ⟨0, by decide⟩), (⟨25, by decide⟩, ⟨0, by decide⟩), (⟨24, by decide⟩, ⟨0, by decide⟩), (⟨23, by decide⟩, ⟨0, by decide⟩), (⟨22, by decide⟩, ⟨0, by decide⟩), (⟨21, by decide⟩, ⟨0, by decide⟩), (⟨20, by decide⟩, ⟨0, by decide⟩), (⟨19, by decide⟩, ⟨0, by decide⟩), (⟨18, by decide⟩, ⟨0, by decide⟩), (⟨17, by decide⟩, ⟨0, by decide⟩), (⟨16, by decide⟩, ⟨0, by decide⟩), (⟨15, by decide⟩, ⟨0, by decide⟩), (⟨14, by decide⟩, ⟨0, by decide⟩), (⟨13, by decide⟩, ⟨0, by decide⟩), (⟨12, by decide⟩, ⟨0, by decide⟩), (⟨11, by decide⟩, ⟨0, by decide⟩), (⟨10, by decide⟩, ⟨0, by decide⟩), (⟨9, by decide⟩, ⟨0, by decide⟩), (⟨8, by decide⟩, ⟨0, by decide⟩), (⟨7, by decide⟩, ⟨0, by decide⟩), (⟨6, by decide⟩, ⟨0, by decide⟩), (⟨5, by decide⟩, ⟨0, by decide⟩), (⟨4, by decide⟩, ⟨0, by decide⟩), (⟨3, by decide⟩, ⟨0, by decide⟩), (⟨2, by decide⟩, ⟨0, by decide⟩), (⟨1, by decide⟩, ⟨0, by decide⟩), (⟨0, by decide⟩, ⟨0, by decide⟩)]

set_option maxHeartbeats 4000000 in
theorem run_q : (run (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).1 f10 f11 = stripsR.map (qPiece c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 0 (by decide)) := by
  unfold run; dsimp only
  unfold stripsR
  simp only [List.map_cons, List.map_nil]
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  rfl

set_option maxHeartbeats 4000000 in
theorem run_k : (run (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.1 f10 f11 = stripsR.map (qPiece c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 4 (by decide)) := by
  unfold run; dsimp only
  unfold stripsR
  simp only [List.map_cons, List.map_nil]
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  rfl

set_option maxHeartbeats 4000000 in
theorem run_v : (run (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.1 f10 f11 = stripsR.map (vPiece c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11) := by
  unfold run; dsimp only
  unfold stripsR
  simp only [List.map_cons, List.map_nil]
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  rfl

set_option maxHeartbeats 4000000 in
theorem run_codes : (run (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.1 f10 f11 = (loopL c i arg1 harg1 arg2 harg2 arg3 harg3 arg4 harg4 arg5 harg5 arg6 harg6 arg7 harg7 arg8 harg8 arg9 harg9 arg10 harg10 arg11 harg11 arg12 harg12 arg13 harg13 x0 x1 x4 x5 f10 f11).1 := by
  unfold run; dsimp only

set_option maxHeartbeats 4000000 in
theorem run_scale : (run (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.2.1 f10 f11 = (loopL c i arg1 harg1 arg2 harg2 arg3 harg3 arg4 harg4 arg5 harg5 arg6 harg6 arg7 harg7 arg8 harg8 arg9 harg9 arg10 harg10 arg11 harg11 arg12 harg12 arg13 harg13 x0 x1 x4 x5 f10 f11).2.1 := by
  unfold run; dsimp only

end Cert.KernelIdeal.Body

end
-- ==== Proof.Spec.lean ====
/-
  The layer row by row, over the extended reals: a token's norm, quantiser, projection and rotary embedding as functions
  of the token's row, and the laws that set the kernel's spelling of each beside the reference's.
-/
module

public import proofs.«01_k».proof.Proof.Strips
public import Idealize.ShloMosaic.PureOps.Ideal
public import Idealize.ShloMosaic.PureOps.Ideal.Laws
public import Idealize.ShloMosaic.Lib.Pointwise

@[expose] public section

noncomputable section

namespace Cert.Spec

open Idealize.ShloMosaic

/-- The extended real an f32 pattern denotes. -/
abbrev C (b : BitVec 32) : EReal := Ideal.ofBits .f32 b

/-! ### Powers of two -/

/-- The power of two with exponent `e`. -/
def P2 (e : ℤ) : EReal := (((2 : ℝ) ^ e : ℝ) : EReal)

theorem P2_mul (a b : ℤ) : P2 a * P2 b = P2 (a + b) := by
  unfold P2; rw [← EReal.coe_mul, zpow_add₀ (by norm_num)]

theorem P2_le {a b : ℤ} : P2 a ≤ P2 b ↔ a ≤ b := by
  unfold P2; rw [EReal.coe_le_coe_iff]; exact zpow_le_zpow_iff_right₀ (by norm_num)

theorem P2_lt {a b : ℤ} : P2 a < P2 b ↔ a < b := by
  unfold P2; rw [EReal.coe_lt_coe_iff]; exact zpow_lt_zpow_iff_right₀ (by norm_num)

theorem P2_pos (a : ℤ) : 0 < P2 a := by
  unfold P2; exact_mod_cast zpow_pos (by norm_num : (0 : ℝ) < 2) a

/-- A pattern with a zero fraction and exponent field `e` denotes a power of two. -/
theorem C_pow2 (e : ℕ) (h0 : 0 < e) (h1 : e < 255) (b : BitVec 32) (hb : b = BitVec.ofNat 32 (e * 2 ^ 23)) :
    C b = P2 ((e : ℤ) - 127) := by
  subst hb
  have hx : (BitVec.extractLsb' 23 8 (BitVec.ofNat 32 (e * 2 ^ 23))).toNat = e := by
    rw [BitVec.extractLsb'_toNat, BitVec.toNat_ofNat, Nat.shiftRight_eq_div_pow]; omega
  have hf : (BitVec.extractLsb' 0 23 (BitVec.ofNat 32 (e * 2 ^ 23))).toNat = 0 := by
    rw [BitVec.extractLsb'_toNat, BitVec.toNat_ofNat, Nat.shiftRight_eq_div_pow]; omega
  have hs : (BitVec.extractLsb' (8 + 23) 1 (BitVec.ofNat 32 (e * 2 ^ 23)) == 1#1) = false := by
    rw [beq_eq_false_iff_ne]; intro h
    have := congrArg BitVec.toNat h
    rw [BitVec.extractLsb'_toNat, BitVec.toNat_ofNat, Nat.shiftRight_eq_div_pow] at this
    simp at this; omega
  show Ideal.ieee 8 23 _ = _
  unfold Ideal.ieee
  simp only [hx, hf, hs]
  rw [if_neg (by omega), if_neg (by omega)]
  unfold P2
  congr 1
  have h2 : (2 : ℝ) ≠ 0 := by norm_num
  simp only [Nat.add_zero, Bool.false_eq_true, if_false, one_mul]
  rw [show ((e : ℤ) - (2 ^ (8 - 1) - 1) - (23 : ℕ)) = ((e : ℤ) - 127) + (-23) by norm_num; omega, zpow_add₀ h2]
  rw [show ((2 : ℝ) ^ (-23 : ℤ)) = 1 / 8388608 by norm_num]
  norm_num
  ring

theorem C_inf : C 0x7F800000#32 = ⊤ := by simp [C, Ideal.ofBits, Ideal.ieee]
theorem C_ninf : C 0xFF800000#32 = ⊥ := by simp [C, Ideal.ofBits, Ideal.ieee]

/-! ### The ladder of rungs that finds the power of two under a value -/

/-- Whether the candidate `p` may grow by `n`. -/
def lUp (z p : EReal) (n : BitVec 32) : BitVec 1 := Ideal.cmp .oge z (p * C n)
/-- One rung of the power, -/
def lP (z p : EReal) (n : BitVec 32) : EReal := Scalar.select (lUp z p n) (p * C n) p
/-- and of its reciprocal. -/
def lQ (z p q : EReal) (n w : BitVec 32) : EReal := Scalar.select (lUp z p n) (q * C w) q

def l0 : EReal := C 0x00800000#32
def l1 (z : EReal) : EReal := lP z l0 0x7E800000#32
def l2 (z : EReal) : EReal := lP z (l1 z) 0x5F800000#32
def l3 (z : EReal) : EReal := lP z (l2 z) 0x4F800000#32
def l4 (z : EReal) : EReal := lP z (l3 z) 0x47800000#32
def l5 (z : EReal) : EReal := lP z (l4 z) 0x43800000#32
def l6 (z : EReal) : EReal := lP z (l5 z) 0x41800000#32
def l7 (z : EReal) : EReal := lP z (l6 z) 0x40800000#32
def l8 (z : EReal) : EReal := lP z (l7 z) 0x40000000#32
def m0 : EReal := C 0x7E800000#32
def m1 (z : EReal) : EReal := lQ z l0 m0 0x7E800000#32 0x00800000#32
def m2 (z : EReal) : EReal := lQ z (l1 z) (m1 z) 0x5F800000#32 0x1F800000#32
def m3 (z : EReal) : EReal := lQ z (l2 z) (m2 z) 0x4F800000#32 0x2F800000#32
def m4 (z : EReal) : EReal := lQ z (l3 z) (m3 z) 0x47800000#32 0x37800000#32
def m5 (z : EReal) : EReal := lQ z (l4 z) (m4 z) 0x43800000#32 0x3B800000#32
def m6 (z : EReal) : EReal := lQ z (l5 z) (m5 z) 0x41800000#32 0x3D800000#32
def m7 (z : EReal) : EReal := lQ z (l6 z) (m6 z) 0x40800000#32 0x3E800000#32
def m8 (z : EReal) : EReal := lQ z (l7 z) (m7 z) 0x40000000#32 0x3F000000#32

/-- Whether a scale other than one is taken. -/
def lWhole (z : EReal) : BitVec 1 := IntOp.andi (Ideal.cmp .oge z (C 0x00800000#32)) (Ideal.cmp .olt z (C 0x7F800000#32))
/-- The kernel's row scale, -/
def lScale (z : EReal) : EReal := Scalar.select (lWhole z) (l8 z * C 0x40000000#32) (C 0x3F800000#32)
/-- and its reciprocal. -/
def lInv (z : EReal) : EReal := Scalar.select (lWhole z) (m8 z * C 0x3F000000#32) (C 0x3F800000#32)

/-- The reference's row scale: twice the largest power of two, of the 254 with a normal f32, that `z` reaches. -/
def sScale (z : EReal) : EReal :=
  Scalar.select (IntOp.ori (BitVec.ofBool (decide (z < C 0x00800000#32))) (BitVec.ofBool (decide (z = C 0x7F800000#32)))) 1
    (C 0x40000000#32 * Finset.fold max (C 0xFF800000#32) (fun j : Fin 254 => if P2 ((j.val : ℤ) - 126) ≤ z then P2 ((j.val : ℤ) - 126) else 0) Finset.univ)

/-- What holds of the candidate with exponent `e` when the remaining rungs can still raise the exponent by `s`. -/
def Inv (z p q : EReal) (s : ℤ) : Prop :=
  ∃ e : ℤ, p = P2 e ∧ q = P2 (-e) ∧ -126 ≤ e ∧ P2 e ≤ z ∧ e + s ≤ 127 ∧ (z < P2 (e + s + 1) ∨ e + s = 127)

theorem Inv.rung {z p q : EReal} {s : ℤ} (h : Inv z p q s) (k s' : ℤ) (hs : s = k + s') (hk : 0 ≤ k) (hk' : k ≤ s' + 1)
    (n w : BitVec 32) (hn : C n = P2 k) (hw : C w = P2 (-k)) : Inv z (lP z p n) (lQ z p q n w) s' := by
  obtain ⟨e, rfl, rfl, he, hz, h127, hlt⟩ := h
  unfold lP lQ lUp Ideal.cmp
  rw [hn, hw, P2_mul, P2_mul]
  by_cases hc : P2 (e + k) ≤ z
  · have : (BitVec.ofBool (decide (P2 (e + k) ≤ z))) = 1#1 := by rw [decide_eq_true hc]; rfl
    simp only [this, Scalar.select]
    rw [if_pos (by decide), if_pos (by decide)]
    refine ⟨e + k, rfl, by rw [neg_add], by omega, hc, by omega, ?_⟩
    rcases hlt with h | h
    · left; rw [show e + k + s' + 1 = e + s + 1 by omega]; exact h
    · right; omega
  · have : (BitVec.ofBool (decide (P2 (e + k) ≤ z))) = 0#1 := by rw [decide_eq_false hc]; rfl
    simp only [this, Scalar.select]
    rw [if_neg (by decide), if_neg (by decide)]
    refine ⟨e, rfl, rfl, he, hz, by omega, Or.inl ?_⟩
    exact lt_of_lt_of_le (not_le.mp hc) (P2_le.mpr (by omega))

theorem c_n (e : ℕ) (b : BitVec 32) (h0 : 0 < e) (h1 : e < 255) (hb : b = BitVec.ofNat 32 (e * 2 ^ 23)) (k : ℤ) (hk : k = (e : ℤ) - 127) :
    C b = P2 k := by rw [hk]; exact C_pow2 e h0 h1 b hb

theorem inv_l8 {z : EReal} (hz : C 0x00800000#32 ≤ z) : Inv z (l8 z) (m8 z) 0 := by
  have hm : C 0x00800000#32 = P2 (-126) := c_n 1 _ (by decide) (by decide) (by decide) _ (by norm_num)
  have i0 : Inv z l0 m0 253 := by
    refine ⟨-126, hm, c_n 253 0x7E800000#32 (by decide) (by decide) (by decide) (- -126) (by norm_num), le_refl _, by rw [← hm]; exact hz, by norm_num, Or.inr (by norm_num)⟩
  have i1 := i0.rung 126 127 (by norm_num) (by norm_num) (by norm_num) 0x7E800000#32 0x00800000#32 (c_n 253 _ (by decide) (by decide) (by decide) _ (by norm_num)) (c_n 1 _ (by decide) (by decide) (by decide) _ (by norm_num))
  have i2 := i1.rung 64 63 (by norm_num) (by norm_num) (by norm_num) 0x5F800000#32 0x1F800000#32 (c_n 191 _ (by decide) (by decide) (by decide) _ (by norm_num)) (c_n 63 _ (by decide) (by decide) (by decide) _ (by norm_num))
  have i3 := i2.rung 32 31 (by norm_num) (by norm_num) (by norm_num) 0x4F800000#32 0x2F800000#32 (c_n 159 _ (by decide) (by decide) (by decide) _ (by norm_num)) (c_n 95 _ (by decide) (by decide) (by decide) _ (by norm_num))
  have i4 := i3.rung 16 15 (by norm_num) (by norm_num) (by norm_num) 0x47800000#32 0x37800000#32 (c_n 143 _ (by decide) (by decide) (by decide) _ (by norm_num)) (c_n 111 _ (by decide) (by decide) (by decide) _ (by norm_num))
  have i5 := i4.rung 8 7 (by norm_num) (by norm_num) (by norm_num) 0x43800000#32 0x3B800000#32 (c_n 135 _ (by decide) (by decide) (by decide) _ (by norm_num)) (c_n 119 _ (by decide) (by decide) (by decide) _ (by norm_num))
  have i6 := i5.rung 4 3 (by norm_num) (by norm_num) (by norm_num) 0x41800000#32 0x3D800000#32 (c_n 131 _ (by decide) (by decide) (by decide) _ (by norm_num)) (c_n 123 _ (by decide) (by decide) (by decide) _ (by norm_num))
  have i7 := i6.rung 2 1 (by norm_num) (by norm_num) (by norm_num) 0x40800000#32 0x3E800000#32 (c_n 129 _ (by decide) (by decide) (by decide) _ (by norm_num)) (c_n 125 _ (by decide) (by decide) (by decide) _ (by norm_num))
  exact i7.rung 1 0 (by norm_num) (by norm_num) (by norm_num) 0x40000000#32 0x3F000000#32 (c_n 128 _ (by decide) (by decide) (by decide) _ (by norm_num)) (c_n 126 _ (by decide) (by decide) (by decide) _ (by norm_num))

/-- The table's maximum is the power the ladder finds. -/
theorem fold_table {z : EReal} {e : ℤ} (he : -126 ≤ e) (he' : e ≤ 127) (hz : P2 e ≤ z) (hlt : z < P2 (e + 1) ∨ e = 127) :
    Finset.fold max (C 0xFF800000#32) (fun j : Fin 254 => if P2 ((j.val : ℤ) - 126) ≤ z then P2 ((j.val : ℤ) - 126) else 0) Finset.univ = P2 e := by
  rw [C_ninf]
  apply le_antisymm
  · rw [Finset.fold_max_le]
    refine ⟨bot_le, fun j _ => ?_⟩
    split_ifs with h
    · rw [P2_le]
      rcases hlt with h' | h'
      · have := P2_lt.mp (lt_of_le_of_lt h h'); omega
      · have := j.isLt; omega
    · exact (P2_pos e).le
  · rw [Finset.le_fold_max]
    right
    refine ⟨⟨(e + 126).toNat, by omega⟩, Finset.mem_univ _, ?_⟩
    have h : (((e + 126).toNat : ℕ) : ℤ) - 126 = e := by omega
    simp only [h, if_pos hz, le_refl]

theorem scale_cases (z : EReal) :
    (lScale z = 1 ∧ lInv z = 1 ∧ sScale z = 1) ∨ ∃ e : ℤ, lScale z = P2 e ∧ lInv z = P2 (-e) ∧ sScale z = P2 e := by
  by_cases h0 : C 0x00800000#32 ≤ z
  · by_cases h1 : z = ⊤
    · left
      have hw : lWhole z = 0#1 := by
        unfold lWhole Ideal.cmp; rw [h1, C_inf]; simp [IntOp.andi]
      have h1' : C 0x3F800000#32 = 1 := Ideal.ofBits_one_f32
      refine ⟨by rw [lScale, hw, h1']; rfl, by rw [lInv, hw, h1']; rfl, ?_⟩
      unfold sScale
      rw [h1, C_inf]
      simp [IntOp.ori, Scalar.select]
    · right
      obtain ⟨e, hp, hq, he, hz, h127, hlt⟩ := inv_l8 h0
      have hz' : z < ⊤ := lt_top_iff_ne_top.mpr h1
      have hw : lWhole z = 1#1 := by
        unfold lWhole Ideal.cmp; rw [C_inf]; simp [IntOp.andi, h0, hz']
      have h2 : C 0x40000000#32 = P2 1 := c_n 128 _ (by decide) (by decide) (by decide) _ (by norm_num)
      have h3 : C 0x3F000000#32 = P2 (-1) := c_n 126 _ (by decide) (by decide) (by decide) _ (by norm_num)
      refine ⟨e + 1, ?_, ?_, ?_⟩
      · rw [lScale, hw, hp, h2, P2_mul]; rfl
      · rw [lInv, hw, hq, h3, P2_mul, neg_add]; rfl
      · unfold sScale
        rw [fold_table he (by omega) hz (by simpa using hlt), h2, P2_mul, add_comm 1 e, C_inf]
        have : ¬ z < C 0x00800000#32 := not_lt.mpr h0
        simp [IntOp.ori, Scalar.select, this, h1]
  · left
    have hw : lWhole z = 0#1 := by
      unfold lWhole Ideal.cmp; simp [IntOp.andi, h0]
    have h1' : C 0x3F800000#32 = 1 := Ideal.ofBits_one_f32
    refine ⟨by rw [lScale, hw, h1']; rfl, by rw [lInv, hw, h1']; rfl, ?_⟩
    unfold sScale
    have : z < C 0x00800000#32 := not_le.mp h0
    rw [decide_eq_true this]
    by_cases h : z = C 0x7F800000#32
    · rw [decide_eq_true h]; rfl
    · rw [decide_eq_false h]; rfl

theorem lScale_eq (z : EReal) : lScale z = sScale z := by
  rcases scale_cases z with ⟨h, _, h'⟩ | ⟨e, h, _, h'⟩ <;> rw [h, h']

theorem div_P2 (e : ℤ) : Ideal.div 1 (P2 e) = P2 (-e) := by
  unfold P2
  rw [Ideal.div_coe (zpow_ne_zero _ (by norm_num)), one_mul, one_div, zpow_neg]

theorem lInv_eq (z : EReal) : lInv z = Ideal.div 1 (sScale z) := by
  rcases scale_cases z with ⟨_, h, h'⟩ | ⟨e, _, h, h'⟩
  · rw [h, h']
    have := div_P2 0
    simpa [P2] using this.symm
  · rw [h, h', div_P2]

/-! ### The norm and the codes of a row -/

/-- The magnitude. -/
abbrev mag (x : EReal) : EReal := max x (-x)

variable (xr nw : Fin 8192 → EReal)

/-- The reciprocal root mean square, as the reference takes it -/
def sR : EReal := Ideal.rsqrt (Ideal.div (∑ l, xr l * xr l) (C 0x46000000#32) + C 0x3727C5AC#32)
/-- and as the kernel does. -/
def kR : EReal := Ideal.rsqrt ((∑ l, xr l * xr l) * C 0x39000000#32 + C 0x3727C5AC#32)

/-- The largest normed magnitude over the format's largest value, as the reference takes it -/
def sZ : EReal := Finset.fold max (C 0xFF800000#32) (fun l => mag (xr l * sR xr * nw l)) Finset.univ * C 0x3B124925#32
/-- and as the kernel does. -/
def kZ : EReal := Finset.fold max (C 0xFF800000#32) (fun l => mag (xr l * nw l)) Finset.univ * kR xr * C 0x3B124925#32

/-- A code, as the reference takes it -/
def sCode (l : Fin 8192) : EReal :=
  min (C 0x43E00000#32) (max (C 0xC3E00000#32) (xr l * sR xr * nw l * Ideal.div 1 (sScale (sZ xr nw))))
/-- and as the kernel does. -/
def kCode (l : Fin 8192) : EReal :=
  min (C 0x43E00000#32) (max (C 0xC3E00000#32) (xr l * (kR xr * lInv (kZ xr nw)) * nw l))

theorem kR_eq : kR xr = sR xr := by
  have h : C 0x46000000#32 = P2 13 := c_n 140 _ (by decide) (by decide) (by decide) _ (by norm_num)
  have h' : C 0x39000000#32 = P2 (-13) := c_n 114 _ (by decide) (by decide) (by decide) _ (by norm_num)
  unfold kR sR
  rw [h, h']
  unfold P2
  rw [Ideal.div_coe (zpow_ne_zero _ (by norm_num)), one_div, zpow_neg]

theorem mul_self_nonneg' (x : EReal) : 0 ≤ x * x := by
  rcases le_total 0 x with h | h
  · exact mul_nonneg h h
  · have : 0 ≤ -x := by simpa using EReal.neg_le_neg_iff.mpr h
    rw [← neg_mul_neg]; exact mul_nonneg this this

theorem rsqrt_nonneg {x : EReal} (h : 0 ≤ x) : 0 ≤ Ideal.rsqrt x := by
  induction x with
  | bot => exact absurd h (by decide)
  | top => rw [Ideal.rsqrt_top]
  | coe r =>
    have hr : 0 ≤ r := by exact_mod_cast h
    rw [Ideal.rsqrt_coe, if_neg (not_lt.mpr hr)]
    split_ifs
    · exact le_top
    · exact_mod_cast inv_nonneg.mpr (Real.sqrt_nonneg r)

theorem eps_nonneg : 0 ≤ C 0x3727C5AC#32 := by
  have : C 0x3727C5AC#32 = ((2748779 / 274877906944 : ℝ) : EReal) := by
    simp [C, Ideal.ofBits, Ideal.ieee, -EReal.coe_mul]; norm_num
  rw [this]; exact_mod_cast (by norm_num : (0 : ℝ) ≤ 2748779 / 274877906944)

theorem kR_nonneg : 0 ≤ kR xr := by
  have h' : C 0x39000000#32 = P2 (-13) := c_n 114 _ (by decide) (by decide) (by decide) _ (by norm_num)
  unfold kR
  apply rsqrt_nonneg
  rw [h']
  exact add_nonneg (mul_nonneg (Finset.sum_nonneg fun l _ => mul_self_nonneg' _) (P2_pos _).le) eps_nonneg

theorem mag_nonneg (x : EReal) : 0 ≤ mag x := by
  rcases le_total 0 x with h | h
  · exact le_max_of_le_left h
  · exact le_max_of_le_right (by simpa using EReal.neg_le_neg_iff.mpr h)

theorem mag_mul (x : EReal) {r : EReal} (hr : 0 ≤ r) : mag (x * r) = mag x * r := by
  have hm : Monotone fun y : EReal => y * r := fun a b h => mul_le_mul_of_nonneg_right h hr
  have := hm.map_max (a := x) (b := -x)
  simp only [mag] at *
  rw [this, EReal.neg_mul]

theorem fold_mul {f : Fin 8192 → EReal} {r : EReal} (hr : 0 ≤ r) :
    Finset.fold max ⊥ (fun l => f l * r) Finset.univ = Finset.fold max ⊥ f Finset.univ * r := by
  apply le_antisymm
  · rw [Finset.fold_max_le]
    refine ⟨bot_le, fun l hl => mul_le_mul_of_nonneg_right ?_ hr⟩
    exact (Finset.le_fold_max _).mpr (Or.inr ⟨l, hl, le_refl _⟩)
  · obtain ⟨l, _, hl⟩ := Finset.exists_max_image (Finset.univ : Finset (Fin 8192)) f ⟨0, Finset.mem_univ _⟩
    have : Finset.fold max ⊥ f Finset.univ = f l := by
      apply le_antisymm
      · exact Finset.fold_max_le _ |>.mpr ⟨bot_le, fun x hx => hl x hx⟩
      · exact (Finset.le_fold_max _).mpr (Or.inr ⟨l, Finset.mem_univ _, le_refl _⟩)
    rw [this]
    exact (Finset.le_fold_max _).mpr (Or.inr ⟨l, Finset.mem_univ _, le_refl _⟩)

theorem kZ_eq : kZ xr nw = sZ xr nw := by
  unfold kZ sZ
  rw [C_ninf, ← fold_mul (kR_nonneg xr), ← kR_eq]
  have h : (fun l => mag (xr l * nw l) * kR xr) = fun l => mag (xr l * kR xr * nw l) := by
    funext l
    rw [← mag_mul _ (kR_nonneg xr), mul_right_comm]
  rw [h]

theorem mul_swap (a b s : EReal) : a * (b * s) = a * s * b := by ac_rfl

/-- The row scale. -/
def rowScale : EReal := sScale (sZ xr nw)

theorem kScale_eq : lScale (kZ xr nw) = rowScale xr nw := by rw [lScale_eq, kZ_eq]; rfl

theorem code_comm (a b c d : EReal) : a * (b * d) * c = a * b * c * d := by ac_rfl

theorem kCode_eq (l : Fin 8192) : kCode xr nw l = sCode xr nw l := by
  unfold kCode sCode
  rw [lInv_eq, kZ_eq, kR_eq, code_comm]

/-! ### The cosine and sine of an angle -/

/-- The nearest multiple of a quarter turn, -/
def tN (a : EReal) : EReal := Ideal.liftRound Ideal.roundHalfEven (a * C 0x3F22F983#32)
/-- what is left of the angle, -/
def tR (a : EReal) : EReal := a - tN a * C 0x3FC90000#32 - tN a * C 0x39FDA000#32 - tN a * C 0x33A22169#32
/-- and the two polynomials of it. -/
def tSin (a : EReal) : EReal :=
  tR a + tR a * (tR a * tR a) * (C 0xBE2AAAA3#32 + tR a * tR a * (C 0x3C08839E#32 + tR a * tR a * C 0xB94CA1F9#32))
def tCos (a : EReal) : EReal :=
  1 - C 0x3F000000#32 * (tR a * tR a) + tR a * tR a * (tR a * tR a) *
    (C 0x3D2AAAA5#32 + tR a * tR a * (C 0xBAB6061A#32 + tR a * tR a * C 0x37CCF5CE#32))
/-- The quadrant's word. -/
def tW (a : EReal) : BitVec 32 := Ideal.fptosi 32 (tN a)

/-- The reference's choice by quadrant: the cosine -/
def sCos (a : EReal) : EReal :=
  Scalar.select (IntOp.cmpi .eq (IntOp.andi (tW a) 3#32) 0#32) (tCos a)
    (Scalar.select (IntOp.cmpi .eq (IntOp.andi (tW a) 3#32) 1#32) (0 - tSin a)
      (Scalar.select (IntOp.cmpi .eq (IntOp.andi (tW a) 3#32) 2#32) (0 - tCos a) (tSin a)))
/-- and the sine. -/
def sSin (a : EReal) : EReal :=
  Scalar.select (IntOp.cmpi .eq (IntOp.andi (tW a) 3#32) 0#32) (tSin a)
    (Scalar.select (IntOp.cmpi .eq (IntOp.andi (tW a) 3#32) 1#32) (tCos a)
      (Scalar.select (IntOp.cmpi .eq (IntOp.andi (tW a) 3#32) 2#32) (0 - tSin a) (0 - tCos a)))

/-- The kernel's choice, one quadrant ahead when `e` is one. -/
def kTrig (e : BitVec 32) (a : EReal) : EReal :=
  Scalar.select (IntOp.cmpi .eq (IntOp.andi (IntOp.addi (tW a) e) 2#32) 0#32)
    (Scalar.select (IntOp.cmpi .eq (IntOp.andi (IntOp.addi (tW a) e) 1#32) 0#32) (tSin a) (tCos a))
    (0 - Scalar.select (IntOp.cmpi .eq (IntOp.andi (IntOp.addi (tW a) e) 1#32) 0#32) (tSin a) (tCos a))

theorem and3 (w e : BitVec 32) : (w + e) &&& 3#32 = ((w &&& 3#32) + e) &&& 3#32 := by
  have h : ∀ x : BitVec 32, x &&& 3#32 = BitVec.ofNat 32 (x.toNat % 4) := by
    intro x
    apply BitVec.eq_of_toNat_eq
    rw [BitVec.toNat_and, BitVec.toNat_ofNat, BitVec.toNat_ofNat]
    have := Nat.and_two_pow_sub_one_eq_mod x.toNat 2
    norm_num at this ⊢
    rw [this]; omega
  rw [h (w + e), h w, h]
  congr 1
  rw [BitVec.toNat_add, BitVec.toNat_add, BitVec.toNat_ofNat]
  omega

theorem and_lt (w : BitVec 32) : w &&& 3#32 = 0#32 ∨ w &&& 3#32 = 1#32 ∨ w &&& 3#32 = 2#32 ∨ w &&& 3#32 = 3#32 := by
  have h : (w &&& 3#32).toNat < 4 := by
    rw [BitVec.toNat_and]
    exact lt_of_le_of_lt Nat.and_le_right (by decide)
  have : (w &&& 3#32).toNat = 0 ∨ (w &&& 3#32).toNat = 1 ∨ (w &&& 3#32).toNat = 2 ∨ (w &&& 3#32).toNat = 3 := by omega
  rcases this with h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (BitVec.eq_of_toNat_eq h)))

theorem and12 (w e : BitVec 32) : (w + e) &&& 1#32 = (((w &&& 3#32) + e) &&& 3#32) &&& 1#32 ∧
    (w + e) &&& 2#32 = (((w &&& 3#32) + e) &&& 3#32) &&& 2#32 := by
  rw [← and3, BitVec.and_assoc, BitVec.and_assoc]
  exact ⟨rfl, rfl⟩

theorem kTrig_one (a : EReal) : kTrig 1#32 a = sCos a := by
  unfold kTrig sCos IntOp.andi IntOp.addi
  rw [(and12 (tW a) 1#32).1, (and12 (tW a) 1#32).2]
  rcases and_lt (tW a) with h | h | h | h <;> rw [h] <;> rfl

theorem kTrig_zero (a : EReal) : kTrig 0#32 a = sSin a := by
  unfold kTrig sSin IntOp.andi IntOp.addi
  rw [(and12 (tW a) 0#32).1, (and12 (tW a) 0#32).2]
  rcases and_lt (tW a) with h | h | h | h <;> rw [h] <;> rfl

/-! ### The projection and the rotation of a head -/

variable (w : Fin 8192 → Fin 3072 → EReal) (ws : Fin 3072 → EReal)

/-- A column of the projection, as the reference scales it -/
def sY (j : Fin 3072) : EReal := (∑ l, sCode xr nw l * w l j) * rowScale xr nw * ws j
/-- and as the kernel does before the row scale. -/
def kY (j : Fin 3072) : EReal := (∑ l, kCode xr nw l * w l j) * ws j

theorem kY_eq (j : Fin 3072) : kY xr nw w ws j * rowScale xr nw = sY xr nw w ws j := by
  unfold kY sY
  rw [Finset.sum_congr rfl fun l _ => by rw [kCode_eq], mul_right_comm]

/-- The column of lane `l` of head `h` of output `o`. -/
def col (o : Fin 3) (h : Fin 8) (l : Fin 128) : Fin 3072 := ⟨1024 * o.val + 128 * h.val + l.val, by omega⟩
/-- The even lane of `l`'s pair, -/
def lo (l : Fin 128) : Fin 128 := ⟨l.val / 2 * 2, by omega⟩
/-- the odd one, -/
def hi (l : Fin 128) : Fin 128 := ⟨l.val / 2 * 2 + 1, by omega⟩
/-- and the pair. -/
def half (l : Fin 128) : Fin 64 := ⟨l.val / 2, by omega⟩

/-- A lane of a rotated head, as the reference rotates it: `p` the position, `g` the pairs' frequencies. -/
def sHead (p : EReal) (g : Fin 64 → EReal) (o : Fin 3) (h : Fin 8) (l : Fin 128) : EReal :=
  if l.val % 2 < 1 then
    sY xr nw w ws (col o h (lo l)) * sCos (p * g (half l)) - sY xr nw w ws (col o h (hi l)) * sSin (p * g (half l))
  else
    sY xr nw w ws (col o h (hi l)) * sCos (p * g (half l)) + sY xr nw w ws (col o h (lo l)) * sSin (p * g (half l))

/-- The kernel's cosine table at a lane -/
def kCosT (p : EReal) (f : Fin 128 → EReal) (l : Fin 128) : EReal := kTrig 1#32 (p * f (lo l))
/-- and its sine table. -/
def kSinT (p : EReal) (f : Fin 128 → EReal) (l : Fin 128) : EReal :=
  if l.val % 2 < 1 then 0 - kTrig 0#32 (p * f (hi l)) else kTrig 0#32 (p * f (hi l))
/-- A lane of a rotated head, as the kernel rotates it. -/
def kHead (p : EReal) (f : Fin 128 → EReal) (o : Fin 3) (h : Fin 8) (l : Fin 128) : EReal :=
  kY xr nw w ws (col o h l) * (kCosT p f l * lScale (kZ xr nw))
    + kY xr nw w ws (col o h (if l.val % 2 < 1 then hi l else lo l)) * (kSinT p f l * lScale (kZ xr nw))

theorem kHead_eq (p : EReal) (g : Fin 64 → EReal) (f : Fin 128 → EReal) (hf : ∀ l, f l = g (half l)) (o : Fin 3) (h : Fin 8)
    (l : Fin 128) : kHead xr nw w ws p f o h l = sHead xr nw w ws p g o h l := by
  have h1 : half (lo l) = half l := by apply Fin.ext; show l.val / 2 * 2 / 2 = l.val / 2; omega
  have h2 : half (hi l) = half l := by apply Fin.ext; show (l.val / 2 * 2 + 1) / 2 = l.val / 2; omega
  unfold kHead sHead kCosT kSinT
  rw [hf, hf, h1, h2, kTrig_one, kTrig_zero, kScale_eq]
  split_ifs with hl
  · have h3 : lo l = l := by apply Fin.ext; show l.val / 2 * 2 = l.val; omega
    rw [mul_swap, mul_swap, kY_eq, kY_eq, h3, zero_sub, mul_neg, sub_eq_add_neg]
  · have h3 : hi l = l := by apply Fin.ext; show l.val / 2 * 2 + 1 = l.val; omega
    rw [mul_swap, mul_swap, kY_eq, kY_eq, h3]

end Cert.Spec

end
-- ==== Proof.TripValue.lean ====
/-
  One trip of the loop over the row groups, read at an index over the extended reals: each row's scale and codes are the
  row functions of Spec.lean at the row of the block.
-/
module

public import proofs.«01_k».proof.Proof.Spec

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic
open Idealize.SL Idealize.SL.Sem

/-! ### Rows of a two-axis vector -/

/-- A row's maximum. -/
theorem rowMax {n m : ℕ} (v : FVec Ideal ⟨2, ![n, m]⟩ .f32) (b : BitVec 32) (h : Shape.Reduces ⟨2, ![n, m]⟩ [1] ⟨1, ![n]⟩) (hφ hacc) (r : Fin n) :
    multiReduction .maximumf [1] ⟨1, ![n]⟩ v b h hφ hacc (ix1 r) = Finset.fold max (Ideal.ofBits FTy.f32 b) (fun x => v (ix2 r x)) Finset.univ := by
  pointwise

/-- A row's sum. -/
theorem rowSum {n m : ℕ} (v : FVec Ideal ⟨2, ![n, m]⟩ .f32) (b : BitVec 32) (h : Shape.Reduces ⟨2, ![n, m]⟩ [1] ⟨1, ![n]⟩) (hφ hacc) (r : Fin n) :
    multiReduction .add [1] ⟨1, ![n]⟩ v b h hφ hacc (ix1 r) = ∑ x, v (ix2 r x) := by
  pointwise

/-- A vector of rows as a column. -/
theorem colCast (v : FVec Ideal S32 .f32) (r : Fin 32) : shapeCast S32x1 v shapeCasts_S32_S32x1 (ix2 r 0) = v (ix1 r) := by
  pointwise

/-- A column on every lane. -/
theorem colBcast (v : FVec Ideal S32x1 .f32) (r : Fin 32) (l : Fin 128) : broadcastTo S32x128 v broadcasts_S32x1_S32x128 (ix2 r l) = v (ix2 r 0) := by
  pointwise

/-- A row on every sublane. -/
theorem rowBcast (v : FVec Ideal S1x128 .f32) (r : Fin 32) (l : Fin 128) : broadcastTo S32x128 v broadcasts_S1x128_S32x128 (ix2 r l) = v (ix2 0 l) := by
  pointwise

/-- A cast to the same shape. -/
theorem sameCast {s : Shape} {e : EltTy} (v : Vec Ideal s e) (h : Shape.ShapeCasts s s) (j : s.Idx) : shapeCast s v h j = v j := by
  rw [shapeCast_self]

/-- A load of a block of a buffer whose contents read `x`. -/
theorem readAt_unread {s : Shape} {e : EltTy} (a : Memref sig .tc .vmem s e) (ha : a.IsWhole) (x : Vec Ideal s e) (off size : Fin s.rank → ℕ)
    (inb : ∀ d, off d + size d ≤ s.size d) (j : (Rect.unit off size inb).shape.Idx) :
    View.readAt (Elt Ideal) a.view (Rect.unit off size inb).toLoadRect (ha.unread x) j = x ((Rect.unit off size inb).emb j) := by
  show a.view.read (Elt Ideal) (ha.unread x) _ = _
  rw [ha.read_unread]; rfl

variable (arg1 : Memref sig .tc .vmem S256x8192 .bf16) (harg1 : arg1.IsWhole) (arg2 : Memref sig .tc .vmem S1x8192 .bf16) (harg2 : arg2.IsWhole)
  (x0 : Vec Ideal S256x8192 .bf16) (x1 : Vec Ideal S1x8192 .bf16) (k : Fin k0_t1_loop.trips)

/-- Row `r` of row group `k`. -/
def rowIx (r : Fin 32) : Fin 256 := ⟨32 * k.val + r.val, by have := k_lt k; omega⟩
/-- Lane `l` of chunk `c`. -/
def laneIx (c : Fin 64) (l : Fin 128) : Fin 8192 := ⟨128 * c.val + l.val, by omega⟩

/-- A row of the activations, -/
def xrow (x0 : Vec Ideal S256x8192 .bf16) (r : Fin 256) : Fin 8192 → EReal := fun i => x0 (ix2 r i)
/-- and the norm's weight. -/
def nrow (x1 : Vec Ideal S1x8192 .bf16) : Fin 8192 → EReal := fun i => x1 (ix2 0 i)

theorem xC_at (c : Fin 64) (r : Fin 32) (l : Fin 128) :
    xC (F := Ideal) arg1 (harg1.unread x0) k c (ix2 r l) = xrow x0 (rowIx k r) (laneIx c l) := by
  unfold xC
  refine (sameCast (View.readAt (Elt Ideal) arg1.view (Rect.unit (s := S256x8192) (cOff k c) S32x128.size (cOff_inb k c)).toLoadRect (harg1.unread x0)) _ _).trans ?_
  refine (readAt_unread arg1 harg1 x0 (cOff k c) S32x128.size (cOff_inb k c) (ix2 r l)).trans ?_
  unfold xrow
  congr 1
  funext a
  apply Fin.ext
  match a with
  | ⟨0, _⟩ => show cOff k c 0 + 1 * r.val = 32 * k.val + r.val; rw [cOff_eq]; show 32 * k.val + 1 * r.val = _; omega
  | ⟨1, _⟩ => show cOff k c 1 + 1 * l.val = 128 * c.val + l.val; rw [cOff_eq]; show 128 * c.val + 1 * l.val = _; omega

theorem nC_at (c : Fin 64) (r : Fin 32) (l : Fin 128) :
    nC (F := Ideal) arg2 (harg2.unread x1) c (ix2 r l) = nrow x1 (laneIx c l) := by
  unfold nC
  refine (rowBcast (extf .f32 (shapeCast S1x128 (View.readAt (Elt Ideal) arg2.view (Rect.unit (s := S1x8192) ![0, 128 * c.val] S1x128.size (nOff_inb c)).toLoadRect (harg2.unread x1)) shapeCasts_S1x128_S1x128) bitsLt_bf16_f32) r l).trans ?_
  refine (sameCast (View.readAt (Elt Ideal) arg2.view (Rect.unit (s := S1x8192) ![0, 128 * c.val] S1x128.size (nOff_inb c)).toLoadRect (harg2.unread x1)) _ _).trans ?_
  rw [readAt_unread]
  unfold nrow
  congr 1
  funext a
  apply Fin.ext
  match a with
  | ⟨0, _⟩ => rfl
  | ⟨1, _⟩ => show 128 * c.val + 1 * l.val = 128 * c.val + l.val; omega

theorem chunks_eq : chunks = List.finRange 64 := by decide

theorem foldl_add_at (m : Fin 64 → FVec Ideal S32x128 .f32) (j : S32x128.Idx) : ∀ (L : List (Fin 64)) (a : FVec Ideal S32x128 .f32),
    (L.foldl (fun a c => addf a (m c)) a) j = (a j : EReal) + (L.map fun c => (m c j : EReal)).sum
  | [], a => by simp
  | c :: L, a => by
    rw [List.foldl_cons, foldl_add_at m j L, List.map_cons, List.sum_cons, ← add_assoc]; rfl

theorem foldl_max_at (m : Fin 64 → FVec Ideal S32x128 .f32) (j : S32x128.Idx) (b : EReal) : ∀ (L : List (Fin 64)) (a : FVec Ideal S32x128 .f32),
    ((L.foldl (fun a c => maximumf a (m c)) a) j : EReal) ≤ b ↔ (a j : EReal) ≤ b ∧ ∀ c ∈ L, (m c j : EReal) ≤ b
  | [], a => by simp
  | c :: L, a => by
    rw [List.foldl_cons, foldl_max_at m j b L]
    show max (a j : EReal) (m c j) ≤ b ∧ _ ↔ _
    rw [max_le_iff, List.forall_mem_cons, and_assoc]

/-- The lanes of the chunks are the lanes of the row. -/
def laneEquiv : Fin 64 × Fin 128 ≃ Fin 8192 := finProdFinEquiv.trans (finCongr (by norm_num))

theorem laneEquiv_apply (p : Fin 64 × Fin 128) : laneEquiv p = laneIx p.1 p.2 := by
  apply Fin.ext; show p.2.val + 128 * p.1.val = 128 * p.1.val + p.2.val; omega

theorem sum_lanes (g : Fin 8192 → EReal) : ∑ l : Fin 128, ∑ c : Fin 64, g (laneIx c l) = ∑ i, g i := by
  rw [Finset.sum_comm, ← Fintype.sum_prod_type' (f := fun c l => g (laneIx c l))]
  exact Fintype.sum_equiv laneEquiv _ _ fun p => by rw [laneEquiv_apply]

theorem ssq_at (r : Fin 32) (l : Fin 128) :
    ssqOn (F := Ideal) arg1 (harg1.unread x0) k chunks (ix2 r l) = ∑ c : Fin 64, xrow x0 (rowIx k r) (laneIx c l) * xrow x0 (rowIx k r) (laneIx c l) := by
  unfold ssqOn
  refine (foldl_add_at (fun c => mulf (xC arg1 (harg1.unread x0) k c) (xC arg1 (harg1.unread x0) k c)) _ _ _).trans ?_
  rw [chunks_eq, ← Fin.sum_univ_def]
  have h0 : (broadcast S32x128 (Scalar.ofBits (F := Ideal) .f32 0x00000000#32) (ix2 r l) : EReal) = 0 := Ideal.ofBits_zero_f32
  rw [h0, zero_add]
  refine Finset.sum_congr rfl fun c _ => ?_
  rw [← xC_at arg1 harg1]; rfl

theorem rK_at (r : Fin 32) : rK (F := Ideal) arg1 (harg1.unread x0) k (ix2 r 0) = kR (xrow x0 (rowIx k r)) := by
  unfold rK kR
  refine congrArg (fun t => Ideal.rsqrt (t * C 0x39000000#32 + C 0x3727C5AC#32)) (((colCast _ r).trans (rowSum _ _ _ _ _ r)).trans ?_)
  rw [Finset.sum_congr rfl fun l _ => ssq_at arg1 harg1 x0 k r l, sum_lanes (fun i => xrow x0 (rowIx k r) i * xrow x0 (rowIx k r) i)]

theorem amax_at (r : Fin 32) :
    Finset.fold max (C 0xFF800000#32) (fun l => (amaxOn (F := Ideal) arg1 arg2 (harg1.unread x0) (harg2.unread x1) k chunks (ix2 r l) : EReal)) Finset.univ
      = Finset.fold max (C 0xFF800000#32) (fun i => mag (xrow x0 (rowIx k r) i * nrow x1 i)) Finset.univ := by
  rw [C_ninf]
  apply eq_of_forall_ge_iff
  intro b
  rw [Finset.fold_max_le, Finset.fold_max_le]
  have hm : ∀ (l : Fin 128), (amaxOn (F := Ideal) arg1 arg2 (harg1.unread x0) (harg2.unread x1) k chunks (ix2 r l) : EReal) ≤ b
      ↔ (0 : EReal) ≤ b ∧ ∀ c : Fin 64, mag (xrow x0 (rowIx k r) (laneIx c l) * nrow x1 (laneIx c l)) ≤ b := by
    intro l
    unfold amaxOn
    refine (foldl_max_at (fun c => absf (mulf (xC arg1 (harg1.unread x0) k c) (nC arg2 (harg2.unread x1) c))) _ b _ _).trans ?_
    have h0 : (broadcast S32x128 (Scalar.ofBits (F := Ideal) .f32 0x00000000#32) (ix2 r l) : EReal) = 0 := Ideal.ofBits_zero_f32
    rw [h0, chunks_eq]
    refine and_congr_right fun _ => ⟨fun h c => ?_, fun h c _ => ?_⟩
    · rw [← xC_at arg1 harg1, ← nC_at arg2 harg2 x1 c r]; exact h c (List.mem_finRange c)
    · have := h c; rw [← xC_at arg1 harg1, ← nC_at arg2 harg2 x1 c r] at this; exact this
  refine and_congr_right fun _ => ⟨fun h i _ => ?_, fun h l _ => (hm l).mpr ⟨?_, fun c => h _ (Finset.mem_univ _)⟩⟩
  · obtain ⟨p, rfl⟩ := laneEquiv.surjective i
    rw [laneEquiv_apply]
    exact ((hm p.2).mp (h p.2 (Finset.mem_univ _))).2 p.1
  · exact le_trans (mag_nonneg _) (h 0 (Finset.mem_univ _))

theorem zK_at (r : Fin 32) : zK (F := Ideal) arg1 arg2 (harg1.unread x0) (harg2.unread x1) k (ix2 r 0) = kZ (xrow x0 (rowIx k r)) (nrow x1) := by
  unfold zK kZ
  rw [← rK_at arg1 harg1 x0 k r]
  exact congrArg (fun t => t * rK (F := Ideal) arg1 (harg1.unread x0) k (ix2 r 0) * C 0x3B124925#32)
    (((colCast _ r).trans (rowMax _ _ _ _ _ r)).trans (amax_at arg1 harg1 arg2 harg2 x0 x1 k r))

section Ladder
variable (z : FVec Ideal S32x1 .f32) (j : S32x1.Idx)

theorem rungP_at (p : FVec Ideal S32x1 .f32) (n : BitVec 32) : (rungP z p n j : EReal) = lP (z j) (p j) n := rfl
theorem rungQ_at (p q : FVec Ideal S32x1 .f32) (n w : BitVec 32) : (rungQ z p q n w j : EReal) = lQ (z j) (p j) (q j) n w := rfl
theorem p0_at : (p0 (F := Ideal) j : EReal) = l0 := rfl
theorem q0_at : (q0 (F := Ideal) j : EReal) = m0 := rfl
theorem p1_at : (p1 z j : EReal) = l1 (z j) := by unfold p1 l1; rw [rungP_at, p0_at]
theorem q1_at : (q1 z j : EReal) = m1 (z j) := by unfold q1 m1; rw [rungQ_at, p0_at, q0_at]
theorem p2_at : (p2 z j : EReal) = l2 (z j) := by unfold p2 l2; rw [rungP_at, p1_at]
theorem q2_at : (q2 z j : EReal) = m2 (z j) := by unfold q2 m2; rw [rungQ_at, p1_at, q1_at]
theorem p3_at : (p3 z j : EReal) = l3 (z j) := by unfold p3 l3; rw [rungP_at, p2_at]
theorem q3_at : (q3 z j : EReal) = m3 (z j) := by unfold q3 m3; rw [rungQ_at, p2_at, q2_at]
theorem p4_at : (p4 z j : EReal) = l4 (z j) := by unfold p4 l4; rw [rungP_at, p3_at]
theorem q4_at : (q4 z j : EReal) = m4 (z j) := by unfold q4 m4; rw [rungQ_at, p3_at, q3_at]
theorem p5_at : (p5 z j : EReal) = l5 (z j) := by unfold p5 l5; rw [rungP_at, p4_at]
theorem q5_at : (q5 z j : EReal) = m5 (z j) := by unfold q5 m5; rw [rungQ_at, p4_at, q4_at]
theorem p6_at : (p6 z j : EReal) = l6 (z j) := by unfold p6 l6; rw [rungP_at, p5_at]
theorem q6_at : (q6 z j : EReal) = m6 (z j) := by unfold q6 m6; rw [rungQ_at, p5_at, q5_at]
theorem p7_at : (p7 z j : EReal) = l7 (z j) := by unfold p7 l7; rw [rungP_at, p6_at]
theorem q7_at : (q7 z j : EReal) = m7 (z j) := by unfold q7 m7; rw [rungQ_at, p6_at, q6_at]
theorem p8_at : (p8 z j : EReal) = l8 (z j) := by unfold p8 l8; rw [rungP_at, p7_at]
theorem q8_at : (q8 z j : EReal) = m8 (z j) := by unfold q8 m8; rw [rungQ_at, p7_at, q7_at]
theorem whole_at : whole z j = lWhole (z j) := rfl
theorem scaleV_at : (scaleV z j : EReal) = lScale (z j) := by
  unfold scaleV lScale
  show Scalar.select (whole z j) ((p8 z j : EReal) * C 0x40000000#32) (C 0x3F800000#32) = _
  rw [whole_at, p8_at]
theorem invV_at : (invV z j : EReal) = lInv (z j) := by
  unfold invV lInv
  show Scalar.select (whole z j) ((q8 z j : EReal) * C 0x3F000000#32) (C 0x3F800000#32) = _
  rw [whole_at, q8_at]

end Ladder

/-- The row scale of row `r` of group `k`, -/
theorem scale_at (r : Fin 32) : (scaleV (zK (F := Ideal) arg1 arg2 (harg1.unread x0) (harg2.unread x1) k) (ix2 r 0) : EReal)
    = lScale (kZ (xrow x0 (rowIx k r)) (nrow x1)) := by
  rw [scaleV_at, zK_at]

/-- its codes, -/
theorem codeC_at (c : Fin 64) (r : Fin 32) (l : Fin 128) : (codeC (F := Ideal) arg1 arg2 (harg1.unread x0) (harg2.unread x1) k c (ix2 r l) : EReal)
    = kCode (xrow x0 (rowIx k r)) (nrow x1) (laneIx c l) := by
  unfold codeC kCode
  show min (C 0x43E00000#32) (max (C 0xC3E00000#32) (xC arg1 (harg1.unread x0) k c (ix2 r l) * (broadcastTo S32x128 _ broadcasts_S32x1_S32x128 (ix2 r l)) * nC arg2 (harg2.unread x1) c (ix2 r l))) = _
  rw [colBcast, xC_at, nC_at]
  show min _ (max _ (_ * (rK arg1 (harg1.unread x0) k (ix2 r 0) * invV _ (ix2 r 0)) * _)) = _
  rw [invV_at, rK_at, zK_at]

/-- and a table's row. -/
theorem tabK_at (T : Vec Ideal S32x128 .f32) (r : Fin 32) (l : Fin 128) : (tabK (F := Ideal) arg1 arg2 (harg1.unread x0) (harg2.unread x1) k T (ix2 r l) : EReal)
    = (T (ix2 r l) : EReal) * lScale (kZ (xrow x0 (rowIx k r)) (nrow x1)) := by
  unfold tabK
  refine (sameCast (e := .f32) _ _ _).trans ?_
  show (T (ix2 r l) : EReal) * broadcastTo S32x128 _ broadcasts_S32x1_S32x128 (ix2 r l) = _
  rw [colBcast, scale_at]

end Cert.KernelIdeal.Body

end
-- ==== Proof.LoopValue.lean ====
/-
  The buffers the loop over the row groups writes, after its trips: a row whose group has run holds its codes and scale, and
  its rows of the two tables are multiplied by the scale.
-/
module

public import proofs.«01_k».proof.Proof.TripValue
public import Idealize.ShloMosaic.Lib.WritesUnit

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic
open Idealize.SL Idealize.SL.Sem

variable (c : Dev nD) (i : grid0.Coords) (arg1 : Memref sig .tc .vmem S256x8192 .bf16) (harg1 : arg1.IsWhole) (arg2 : Memref sig .tc .vmem S1x8192 .bf16) (harg2 : arg2.IsWhole) (arg3 : Memref sig .tc .vmem S8192x3072 .fp8e4m3) (harg3 : arg3.IsWhole) (arg4 : Memref sig .tc .vmem S1x3072 .f32) (harg4 : arg4.IsWhole) (arg5 : Memref sig .tc .vmem S1x2x128 .i32) (harg5 : arg5.IsWhole) (arg6 : Memref sig .tc .vmem S1x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x128 .f32) (harg12 : arg12.IsWhole) (arg13 : Memref sig .tc .vmem S256x128 .f32) (harg13 : arg13.IsWhole)
  (x0 : Vec Ideal S256x8192 .bf16) (x1 : Vec Ideal S1x8192 .bf16)
  (v89 : FVec Ideal S128x128 .f32) (v109 : FVec Ideal S128x128 .f32) (v123 : FVec Ideal S128x128 .f32) (v126 : IVec S128x128 32) (w0 : BitVec 32)
  (G10 : BufTy.Contents (Elt Ideal) arg10.view.ty) (G11 : BufTy.Contents (Elt Ideal) arg11.view.ty) (G12 : BufTy.Contents (Elt Ideal) arg12.view.ty) (G13 : BufTy.Contents (Elt Ideal) arg13.view.ty)

/-- What the first `n` trips store. -/
abbrev pbN (n : ℕ) := pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v89 v109 v123 v126 w0 (harg1.unread x0) (harg2.unread x1) G10 G11 G12 G13 n

theorem trips_eq : k0_t1_loop.trips = 8 := by decide

/-- Trip `k` stores its chunks' codes, -/
theorem pbN_codes (k : Fin k0_t1_loop.trips) : (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 (k.val + 1)).1 = chunksR.map (cPiece arg1 arg2 (harg1.unread x0) (harg2.unread x1) k) ++ (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).1 := by
  rw [pbN, pb_k0_t1_succ]
  exact congrArg (· ++ _) (trip_codes Variants.none c none i arg1 harg1 arg2 harg2 arg3 harg3 arg4 harg4 arg5 harg5 arg6 harg6 arg7 harg7 arg8 harg8 arg9 harg9 arg10 harg10 arg11 harg11 arg12 harg12 arg13 harg13 v89 v109 v123 v126 w0 (harg1.unread x0) (harg2.unread x1) k (arg10.view.writes (Elt Ideal) G10 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).1) (arg11.view.writes (Elt Ideal) G11 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.1) (arg12.view.writes (Elt Ideal) G12 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.1) (arg13.view.writes (Elt Ideal) G13 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.2))
/-- its rows' scales, -/
theorem pbN_scale (k : Fin k0_t1_loop.trips) : (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 (k.val + 1)).2.1 = ⟨Rect.unit (k0_off65 k) S32x1.size (k0_off65_inb k), scaleV (zK arg1 arg2 (harg1.unread x0) (harg2.unread x1) k)⟩ :: (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.1 := by
  rw [pbN, pb_k0_t1_succ]
  exact congrArg (· ++ _) (trip_scale Variants.none c none i arg1 harg1 arg2 harg2 arg3 harg3 arg4 harg4 arg5 harg5 arg6 harg6 arg7 harg7 arg8 harg8 arg9 harg9 arg10 harg10 arg11 harg11 arg12 harg12 arg13 harg13 v89 v109 v123 v126 w0 (harg1.unread x0) (harg2.unread x1) k (arg10.view.writes (Elt Ideal) G10 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).1) (arg11.view.writes (Elt Ideal) G11 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.1) (arg12.view.writes (Elt Ideal) G12 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.1) (arg13.view.writes (Elt Ideal) G13 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.2))
/-- and its rows of the two tables. -/
theorem pbN_cos (k : Fin k0_t1_loop.trips) : (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 (k.val + 1)).2.2.1 = ⟨Rect.unit (k0_off66 k) S32x128.size (k0_off66_inb k), tabK arg1 arg2 (harg1.unread x0) (harg2.unread x1) k (View.readAt (Elt Ideal) arg12.view (Rect.unit (s := S256x128) (k0_off66 k) S32x128.size (k0_off66_inb k)).toLoadRect (arg12.view.writes (Elt Ideal) G12 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.1))⟩ :: (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.1 := by
  rw [pbN, pb_k0_t1_succ]
  exact congrArg (· ++ _) (trip_cos Variants.none c none i arg1 harg1 arg2 harg2 arg3 harg3 arg4 harg4 arg5 harg5 arg6 harg6 arg7 harg7 arg8 harg8 arg9 harg9 arg10 harg10 arg11 harg11 arg12 harg12 arg13 harg13 v89 v109 v123 v126 w0 (harg1.unread x0) (harg2.unread x1) k (arg10.view.writes (Elt Ideal) G10 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).1) (arg11.view.writes (Elt Ideal) G11 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.1) (arg12.view.writes (Elt Ideal) G12 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.1) (arg13.view.writes (Elt Ideal) G13 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.2))
theorem pbN_sin (k : Fin k0_t1_loop.trips) : (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 (k.val + 1)).2.2.2 = ⟨Rect.unit (k0_off66 k) S32x128.size (k0_off66_inb k), tabK arg1 arg2 (harg1.unread x0) (harg2.unread x1) k (View.readAt (Elt Ideal) arg13.view (Rect.unit (s := S256x128) (k0_off66 k) S32x128.size (k0_off66_inb k)).toLoadRect (arg13.view.writes (Elt Ideal) G13 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.2))⟩ :: (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.2 := by
  rw [pbN, pb_k0_t1_succ]
  exact congrArg (· ++ _) (trip_sin Variants.none c none i arg1 harg1 arg2 harg2 arg3 harg3 arg4 harg4 arg5 harg5 arg6 harg6 arg7 harg7 arg8 harg8 arg9 harg9 arg10 harg10 arg11 harg11 arg12 harg12 arg13 harg13 v89 v109 v123 v126 w0 (harg1.unread x0) (harg2.unread x1) k (arg10.view.writes (Elt Ideal) G10 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).1) (arg11.view.writes (Elt Ideal) G11 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.1) (arg12.view.writes (Elt Ideal) G12 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.1) (arg13.view.writes (Elt Ideal) G13 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 k.val).2.2.2))

theorem chunksR_mem : ∀ d : Fin 64, d ∈ chunksR := by decide

/-- Where an index of trip `k`'s chunk `d` lies. -/
theorem cRect_emb (k : Fin k0_t1_loop.trips) (d : Fin 64) (r : Fin 32) (l : Fin 128) :
    (Rect.unit (s := S256x8192) (cOff k d) S32x128.size (cOff_inb k d)).emb (ix2 r l) = ix2 (rowIx k r) (laneIx d l) := by
  funext a
  apply Fin.ext
  match a with
  | ⟨0, _⟩ => show cOff k d 0 + 1 * r.val = 32 * k.val + r.val; rw [cOff_eq]; show 32 * k.val + 1 * r.val = _; omega
  | ⟨1, _⟩ => show cOff k d 1 + 1 * l.val = 128 * d.val + l.val; rw [cOff_eq]; show 128 * d.val + 1 * l.val = _; omega

/-- After `n` trips the rows of the first `n` groups hold their codes, -/
theorem read_codes : ∀ n : ℕ, n ≤ 8 → ∀ (r : Fin 256) (q : Fin 8192), r.val < 32 * n →
    (arg10.view.read (Elt Ideal) (arg10.view.writes (Elt Ideal) G10 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 n).1) (ix2 r q) : EReal) = kCode (xrow x0 r) (nrow x1) q
  | 0, _, r, q, h => absurd h (by omega)
  | n + 1, hn, r, q, h => by
    have hk : n < k0_t1_loop.trips := by rw [trips_eq]; omega
    rw [pbN_codes c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 ⟨n, hk⟩, View.writes_append]
    rcases Nat.lt_or_ge r.val (32 * n) with hr | hr
    · rw [View.read_writes_apply_of_forall_not_mem]
      · exact read_codes n (by omega) r q hr
      · intro p hp
        obtain ⟨d, _, rfl⟩ := List.mem_map.mp hp
        show ix2 r q ∉ (Rect.unit (s := S256x8192) (cOff ⟨n, hk⟩ d) S32x128.size (cOff_inb ⟨n, hk⟩ d)).set
        rw [Rect.mem_set_unit]
        intro hall
        have h0 := (hall 0).1
        rw [cOff_eq] at h0
        have h0' : 32 * n ≤ r.val := h0
        omega
    · refine View.read_writes_apply_of_pieces (Val := Elt Ideal) (e := .fp8e4m3) arg10.view _ (fun y : S256x8192.Idx => (kCode (xrow x0 (y 0)) (nrow x1) (y 1) : Elt Ideal .fp8e4m3)) _ ?_ (ix2 r q) ?_
      · intro p hp x
        obtain ⟨d, _, rfl⟩ := List.mem_map.mp hp
        obtain ⟨a, b, rfl⟩ : ∃ a b, x = ix2 (n0 := 32) (n1 := 128) a b := ⟨x 0, x 1, (ix2_eta x).symm⟩
        refine (codeC_at arg1 harg1 arg2 harg2 x0 x1 ⟨n, hk⟩ d a b).trans ?_
        show _ = (fun y : S256x8192.Idx => (kCode (xrow x0 (y 0)) (nrow x1) (y 1) : EReal)) ((Rect.unit (s := S256x8192) (cOff ⟨n, hk⟩ d) S32x128.size (cOff_inb ⟨n, hk⟩ d)).emb (ix2 a b))
        rw [cRect_emb]; rfl
      · refine ⟨_, List.mem_map.mpr ⟨⟨q.val / 128, by omega⟩, chunksR_mem _, rfl⟩, ?_⟩
        show ix2 r q ∈ (Rect.unit (s := S256x8192) (cOff ⟨n, hk⟩ ⟨q.val / 128, by omega⟩) S32x128.size (cOff_inb ⟨n, hk⟩ ⟨q.val / 128, by omega⟩)).set
        rw [Rect.mem_set_unit]
        intro a
        rw [cOff_eq]
        match a with
        | ⟨0, _⟩ => show 32 * n ≤ r.val ∧ r.val < 32 * n + 32; omega
        | ⟨1, _⟩ => show 128 * (q.val / 128) ≤ q.val ∧ q.val < 128 * (q.val / 128) + 128; omega

/-- their scales, -/
theorem read_scale : ∀ n : ℕ, n ≤ 8 → ∀ (r : Fin 256), r.val < 32 * n →
    (arg11.view.read (Elt Ideal) (arg11.view.writes (Elt Ideal) G11 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 n).2.1) (ix2 r 0) : EReal) = lScale (kZ (xrow x0 r) (nrow x1))
  | 0, _, r, h => absurd h (by omega)
  | n + 1, hn, r, h => by
    have hk : n < k0_t1_loop.trips := by rw [trips_eq]; omega
    rw [pbN_scale c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 ⟨n, hk⟩]
    rcases Nat.lt_or_ge r.val (32 * n) with hr | hr
    · refine (View.read_writes_cons_rows_of_not_mem (W := 32) arg11.view G11 (k0_off65_inb ⟨n, hk⟩) _ _ (ix2 r 0) (k0_off65_eq ⟨n, hk⟩) rfl (Or.inl hr)).trans ?_
      exact read_scale n (by omega) r hr
    · refine (View.read_writes_cons_rows_of_mem arg11.view G11 (k0_off65_inb ⟨n, hk⟩) _ _ (ix2 r 0) (ix2 (n0 := 32) (n1 := 1) ⟨r.val - 32 * n, by omega⟩ 0) (k0_off65_eq ⟨n, hk⟩)
        (show r.val = 32 * n + (r.val - 32 * n) by omega) rfl).trans ?_
      refine (scale_at arg1 harg1 arg2 harg2 x0 x1 ⟨n, hk⟩ ⟨r.val - 32 * n, by omega⟩).trans ?_
      have hrow : rowIx ⟨n, hk⟩ ⟨r.val - 32 * n, by omega⟩ = r := Fin.ext (show 32 * n + (r.val - 32 * n) = r.val by omega)
      rw [hrow]

/-- One trip on a table whose row `r` reads `T` there. -/
theorem read_tab_step (a : Memref sig .tc .vmem S256x128 .f32) (G : BufTy.Contents (Elt Ideal) a.view.ty) (L : List (View.Piece (Elt Ideal) S256x128 .f32))
    (k : Fin k0_t1_loop.trips) (r : Fin 256) (l : Fin 128) :
    (a.view.read (Elt Ideal) (a.view.writes (Elt Ideal) G (⟨Rect.unit (k0_off66 k) S32x128.size (k0_off66_inb k), tabK arg1 arg2 (harg1.unread x0) (harg2.unread x1) k (View.readAt (Elt Ideal) a.view (Rect.unit (s := S256x128) (k0_off66 k) S32x128.size (k0_off66_inb k)).toLoadRect (a.view.writes (Elt Ideal) G L))⟩ :: L)) (ix2 r l) : EReal)
      = if 32 * k.val ≤ r.val ∧ r.val < 32 * (k.val + 1) then (a.view.read (Elt Ideal) (a.view.writes (Elt Ideal) G L) (ix2 r l) : EReal) * lScale (kZ (xrow x0 r) (nrow x1))
        else a.view.read (Elt Ideal) (a.view.writes (Elt Ideal) G L) (ix2 r l) := by
  split
  next h =>
    refine (View.read_writes_cons_rows_of_mem a.view G (k0_off66_inb k) _ _ (ix2 r l) (ix2 (n0 := 32) (n1 := 128) ⟨r.val - 32 * k.val, by omega⟩ l) (k0_off66_eq k)
        (show r.val = 32 * k.val + (r.val - 32 * k.val) by omega) rfl).trans ?_
    refine (tabK_at arg1 harg1 arg2 harg2 x0 x1 k _ ⟨r.val - 32 * k.val, by omega⟩ l).trans ?_
    have hrow : rowIx k ⟨r.val - 32 * k.val, by omega⟩ = r := Fin.ext (show 32 * k.val + (r.val - 32 * k.val) = r.val by omega)
    rw [hrow]
    refine congrArg (fun t : EReal => t * _) ?_
    show a.view.read (Elt Ideal) _ ((Rect.unit (s := S256x128) (k0_off66 k) S32x128.size (k0_off66_inb k)).emb (ix2 ⟨r.val - 32 * k.val, by omega⟩ l)) = _
    refine congrArg _ ?_
    funext b
    apply Fin.ext
    match b with
    | ⟨0, _⟩ => show k0_off66 k 0 + 1 * (r.val - 32 * k.val) = r.val; rw [k0_off66_eq]; show 32 * k.val + 1 * (r.val - 32 * k.val) = _; omega
    | ⟨1, _⟩ => show k0_off66 k 1 + 1 * l.val = l.val; rw [k0_off66_eq]; show 0 + 1 * l.val = _; omega
  next h =>
    exact View.read_writes_cons_rows_of_not_mem (W := 32) a.view G (k0_off66_inb k) _ _ (ix2 r l) (k0_off66_eq k) rfl (by
      show r.val < 32 * k.val ∨ 32 * k.val + 32 ≤ r.val; omega)

/-- and their rows of the cosine table are multiplied by it, -/
theorem read_cos : ∀ n : ℕ, n ≤ 8 → ∀ (r : Fin 256) (l : Fin 128),
    (arg12.view.read (Elt Ideal) (arg12.view.writes (Elt Ideal) G12 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 n).2.2.1) (ix2 r l) : EReal)
      = if r.val < 32 * n then (arg12.view.read (Elt Ideal) G12 (ix2 r l) : EReal) * lScale (kZ (xrow x0 r) (nrow x1)) else arg12.view.read (Elt Ideal) G12 (ix2 r l)
  | 0, _, r, l => (if_neg (by omega)).symm
  | n + 1, hn, r, l => by
    have hk : n < k0_t1_loop.trips := by rw [trips_eq]; omega
    rw [pbN_cos c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 ⟨n, hk⟩, read_tab_step, read_cos n (by omega) r l]
    show (if 32 * n ≤ r.val ∧ r.val < 32 * (n + 1) then _ else _) = _
    split_ifs <;> first | rfl | omega
/-- and of the sine table. -/
theorem read_sin : ∀ n : ℕ, n ≤ 8 → ∀ (r : Fin 256) (l : Fin 128),
    (arg13.view.read (Elt Ideal) (arg13.view.writes (Elt Ideal) G13 (pbN c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 n).2.2.2) (ix2 r l) : EReal)
      = if r.val < 32 * n then (arg13.view.read (Elt Ideal) G13 (ix2 r l) : EReal) * lScale (kZ (xrow x0 r) (nrow x1)) else arg13.view.read (Elt Ideal) G13 (ix2 r l)
  | 0, _, r, l => (if_neg (by omega)).symm
  | n + 1, hn, r, l => by
    have hk : n < k0_t1_loop.trips := by rw [trips_eq]; omega
    rw [pbN_sin c i arg1 harg1 arg2 harg2 arg3 harg3 arg4 harg4 arg5 harg5 arg6 harg6 arg7 harg7 arg8 harg8 arg9 harg9 arg10 harg10 arg11 harg11 arg12 harg12 arg13 harg13 x0 x1 v89 v109 v123 v126 w0 G10 G11 G12 G13 ⟨n, hk⟩, read_tab_step, read_sin n (by omega) r l]
    show (if 32 * n ≤ r.val ∧ r.val < 32 * (n + 1) then _ else _) = _
    split_ifs <;> first | rfl | omega

end Cert.KernelIdeal.Body

end
-- ==== Proof.Tables.lean ====
/-
  The cosine and sine tables the body builds before the loop, read at an index.
-/
module

public import proofs.«01_k».proof.Proof.LoopValue
public import Idealize.ShloMosaic.Lib.WritesUnit

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic
open Idealize.SL Idealize.SL.Sem

/-- Whether a lane is even, as the word the quadrant is moved by. -/
theorem evenWord (l : Fin 128) : (IntOp.cmpi .eq (IntOp.andi (BitVec.ofNat 32 l.val) 1#32) 0#32).setWidth 32 = if l.val % 2 < 1 then 1#32 else 0#32 := by
  revert l; decide
theorem evenBit (l : Fin 128) : IntOp.cmpi .eq (IntOp.andi (BitVec.ofNat 32 l.val) 1#32) 0#32 = if l.val % 2 < 1 then 1#1 else 0#1 := by
  revert l; decide

section Second
variable (p : Vec Ideal S1x1x128 .i32) (f : Vec Ideal S1x128 .f32)

/-- The angle of a row and lane. -/
def ang (r l : Fin 128) : EReal := (((p (ix3 0 0 r) : BitVec 32).toInt : ℝ) : EReal) * f (ix2 0 l)

theorem pay235_at (r l : Fin 128) : (k0_pay235 (k0_pay234 p) f (ix2 r l) : EReal) = ang p f r l := by
  unfold ang
  pointwise [k0_pay235, k0_pay234]
  rfl
theorem pay236_at (r l : Fin 128) : (k0_pay236 (k0_pay234 p) f (ix2 r l) : EReal) = tN (ang p f r l) := by
  rw [← pay235_at]; rfl
theorem pay237_at (r l : Fin 128) : (k0_pay237 (k0_pay234 p) f (ix2 r l) : EReal) = tR (ang p f r l) := by
  unfold tR; rw [← pay236_at, ← pay235_at]; rfl
theorem pay238_at (r l : Fin 128) : (k0_pay238 (k0_pay234 p) f (ix2 r l) : EReal) = tR (ang p f r l) * tR (ang p f r l) := by
  rw [← pay237_at]; rfl
theorem pay239_at (r l : Fin 128) : (k0_pay239 (k0_pay234 p) f (ix2 r l) : EReal) = tSin (ang p f r l) := by
  unfold tSin; rw [← pay238_at, ← pay237_at]; rfl
theorem pay240_at (r l : Fin 128) : (k0_pay240 (k0_pay234 p) f (ix2 r l) : EReal) = tCos (ang p f r l) := by
  unfold tCos; rw [← pay238_at, ← Ideal.ofBits_one_f32]; rfl

theorem pay242_at' (r l : Fin 128) : k0_pay242 k0_pay241 0#32 (ix2 r l) = IntOp.cmpi .eq (IntOp.andi (BitVec.ofNat 32 l.val) 1#32) 0#32 := by
  pointwise [k0_pay242, k0_pay241]
theorem pay242_at (r l : Fin 128) : k0_pay242 k0_pay241 0#32 (ix2 r l) = if l.val % 2 < 1 then 1#1 else 0#1 := by
  rw [← evenBit, pay242_at']

theorem pay243_at (r l : Fin 128) : (k0_pay243 (k0_pay236 (k0_pay234 p) f) (k0_pay239 (k0_pay234 p) f) (k0_pay240 (k0_pay234 p) f) k0_pay241 0#32 (ix2 r l) : EReal)
    = kTrig (if l.val % 2 < 1 then 1#32 else 0#32) (ang p f r l) := by
  rw [← evenWord, ← pay242_at' r l]
  unfold kTrig tW
  rw [← pay236_at, ← pay239_at, ← pay240_at, ← Ideal.ofBits_zero_f32]; rfl

theorem pay244_at (r l : Fin 128) : (k0_pay244 (k0_pay236 (k0_pay234 p) f) (k0_pay239 (k0_pay234 p) f) (k0_pay240 (k0_pay234 p) f) k0_pay241 0#32 (ix2 r l) : EReal)
    = kCosT (((p (ix3 0 0 r) : BitVec 32).toInt : ℝ) : EReal) (fun l => f (ix2 0 l)) l := by
  pointwise [k0_pay244]
  rw [pay242_at]
  have he : (lo l).val % 2 < 1 := by show l.val / 2 * 2 % 2 < 1; omega
  unfold kCosT
  split
  next h =>
    have hl : lo l = l := Fin.ext (show l.val / 2 * 2 = l.val by omega)
    rw [pay243_at, if_pos h, hl]; rfl
  next h =>
    have hl : (⟨(l.val + 128 - 1) % 128, by omega⟩ : Fin 128) = lo l := Fin.ext (show (l.val + 128 - 1) % 128 = l.val / 2 * 2 by omega)
    rw [hl, pay243_at, pay243_at, if_pos he]; rfl
theorem pay245_at (r l : Fin 128) : (k0_pay245 (k0_pay236 (k0_pay234 p) f) (k0_pay239 (k0_pay234 p) f) (k0_pay240 (k0_pay234 p) f) k0_pay241 0#32 (ix2 r l) : EReal)
    = kSinT (((p (ix3 0 0 r) : BitVec 32).toInt : ℝ) : EReal) (fun l => f (ix2 0 l)) l := by
  pointwise [k0_pay245]
  rw [pay242_at]
  have he : ¬(hi l).val % 2 < 1 := by show ¬(l.val / 2 * 2 + 1) % 2 < 1; omega
  unfold kSinT
  split
  next h =>
    have hl : (⟨(l.val + 128 - 127) % 128, by omega⟩ : Fin 128) = hi l := Fin.ext (show (l.val + 128 - 127) % 128 = l.val / 2 * 2 + 1 by omega)
    rw [hl, pay243_at, pay243_at, if_neg he]; rfl
  next h =>
    have hl : hi l = l := Fin.ext (show l.val / 2 * 2 + 1 = l.val by omega)
    rw [pay243_at p f r l, if_neg h, hl]; rfl

/-! ### The other half of the block's rows -/

theorem pay222_at (r l : Fin 128) : (k0_pay222 p f (ix2 r l) : EReal) = ang p f r l := by
  unfold ang
  pointwise [k0_pay222]
  rfl
theorem pay223_at (r l : Fin 128) : (k0_pay223 p f (ix2 r l) : EReal) = tN (ang p f r l) := by
  rw [← pay222_at]; rfl
theorem pay224_at (r l : Fin 128) : (k0_pay224 p f (ix2 r l) : EReal) = tR (ang p f r l) := by
  unfold tR; rw [← pay223_at, ← pay222_at]; rfl
theorem pay225_at (r l : Fin 128) : (k0_pay225 p f (ix2 r l) : EReal) = tR (ang p f r l) * tR (ang p f r l) := by
  rw [← pay224_at]; rfl
theorem pay226_at (r l : Fin 128) : (k0_pay226 p f (ix2 r l) : EReal) = tSin (ang p f r l) := by
  unfold tSin; rw [← pay225_at, ← pay224_at]; rfl
theorem pay227_at (r l : Fin 128) : (addf (k0_pay227 p f) (mulf (k0_pay228 p f) (addf (broadcast S128x128 (Scalar.ofBits .f32 0x3D2AAAA5#32)) (k0_pay229 p f))) (ix2 r l) : EReal) = tCos (ang p f r l) := by
  unfold tCos; rw [← pay225_at, ← Ideal.ofBits_one_f32]; rfl
theorem pay230_at' (r l : Fin 128) : k0_pay230 (ix2 r l) = IntOp.cmpi .eq (IntOp.andi (BitVec.ofNat 32 l.val) 1#32) 0#32 := by
  pointwise [k0_pay230]
theorem pay230_at (r l : Fin 128) : k0_pay230 (ix2 r l) = if l.val % 2 < 1 then 1#1 else 0#1 := by
  rw [← evenBit, pay230_at']

theorem pay231_at (r l : Fin 128) : (k0_pay231 (k0_pay223 p f) (k0_pay226 p f) (k0_pay227 p f) (k0_pay228 p f) (k0_pay229 p f) (Ideal.ofBits .f32 0x3D2AAAA5#32) (ix2 r l) : EReal)
    = kTrig (if l.val % 2 < 1 then 1#32 else 0#32) (ang p f r l) := by
  rw [← evenWord, ← pay230_at' r l]
  unfold kTrig tW
  rw [← pay223_at, ← pay226_at, ← pay227_at, ← Ideal.ofBits_zero_f32]; rfl

theorem pay232_at (r l : Fin 128) : (k0_pay232 (k0_pay223 p f) (k0_pay226 p f) (k0_pay227 p f) (k0_pay228 p f) (k0_pay229 p f) (Ideal.ofBits .f32 0x3D2AAAA5#32) (ix2 r l) : EReal)
    = kCosT (((p (ix3 0 0 r) : BitVec 32).toInt : ℝ) : EReal) (fun l => f (ix2 0 l)) l := by
  pointwise [k0_pay232]
  rw [pay230_at]
  have he : (lo l).val % 2 < 1 := by show l.val / 2 * 2 % 2 < 1; omega
  unfold kCosT
  split
  next h =>
    have hl : lo l = l := Fin.ext (show l.val / 2 * 2 = l.val by omega)
    rw [pay231_at, if_pos h, hl]; rfl
  next h =>
    have hl : (⟨(l.val + 128 - 1) % 128, by omega⟩ : Fin 128) = lo l := Fin.ext (show (l.val + 128 - 1) % 128 = l.val / 2 * 2 by omega)
    rw [hl, pay231_at, pay231_at, if_pos he]; rfl
theorem pay233_at (r l : Fin 128) : (k0_pay233 (k0_pay223 p f) (k0_pay226 p f) (k0_pay227 p f) (k0_pay228 p f) (k0_pay229 p f) (Ideal.ofBits .f32 0x3D2AAAA5#32) (ix2 r l) : EReal)
    = kSinT (((p (ix3 0 0 r) : BitVec 32).toInt : ℝ) : EReal) (fun l => f (ix2 0 l)) l := by
  pointwise [k0_pay233]
  rw [pay230_at]
  have he : ¬(hi l).val % 2 < 1 := by show ¬(l.val / 2 * 2 + 1) % 2 < 1; omega
  unfold kSinT
  split
  next h =>
    have hl : (⟨(l.val + 128 - 127) % 128, by omega⟩ : Fin 128) = hi l := Fin.ext (show (l.val + 128 - 127) % 128 = l.val / 2 * 2 + 1 by omega)
    rw [hl, pay231_at, pay231_at, if_neg he]; rfl
  next h =>
    have hl : hi l = l := Fin.ext (show l.val / 2 * 2 + 1 = l.val by omega)
    rw [pay231_at p f r l, if_neg h, hl]; rfl

end Second

/-! ### The tables -/

section Tables
variable (c : Dev nD) (arg5 : Memref sig .tc .vmem S1x2x128 .i32) (harg5 : arg5.IsWhole) (arg6 : Memref sig .tc .vmem S1x128 .f32) (harg6 : arg6.IsWhole) (x4 : Vec Ideal S1x2x128 .i32) (x5 : Vec Ideal S1x128 .f32)

/-- A row's position. -/
def posOf (r : Fin 256) : EReal := (((x4 (ix3 0 ⟨r.val / 128, by omega⟩ ⟨r.val % 128, by omega⟩) : BitVec 32).toInt : ℝ) : EReal)

theorem posOf_eq (r : Fin 256) (h : Fin 2) (q : Fin 128) (hr : r.val = 128 * h.val + q.val) : posOf x4 r = (((x4 (ix3 0 h q) : BitVec 32).toInt : ℝ) : EReal) := by
  have h1 : (⟨r.val / 128, by omega⟩ : Fin 2) = h := Fin.ext (show r.val / 128 = h.val by omega)
  have h2 : (⟨r.val % 128, by omega⟩ : Fin 128) = q := Fin.ext (show r.val % 128 = q.val by omega)
  unfold posOf
  rw [h1, h2]

/-- The positions of half `h`, as loaded, -/
theorem pos_load (off : Fin 3 → ℕ) (inb) (h : Fin 2) (hoff : off = ![0, h.val, 0]) (r : Fin 128) :
    View.readAt (Elt Ideal) arg5.view (Rect.unit (s := S1x2x128) off S1x1x128.size inb).toLoadRect (harg5.unread x4) (ix3 0 0 r) = x4 (ix3 0 h r) := by
  subst hoff
  refine (readAt_unread arg5 harg5 x4 _ _ _ (ix3 0 0 r)).trans ?_
  congr 1
  funext a
  apply Fin.ext
  match a with
  | ⟨0, _⟩ => rfl
  | ⟨1, _⟩ => show h.val + 1 * 0 = h.val; omega
  | ⟨2, _⟩ => show 0 + 1 * r.val = r.val; omega
/-- and the frequencies. -/
theorem freq_load (inb) (l : Fin 128) :
    (View.readAt (Elt Ideal) arg6.view (Rect.unit (s := S1x128) ![0, 0] S1x128.size inb).toLoadRect (harg6.unread x5) (ix2 0 l) : EReal) = x5 (ix2 0 l) := by
  refine (readAt_unread arg6 harg6 x5 _ _ _ (ix2 0 l)).trans ?_
  congr 1
  funext a
  apply Fin.ext
  match a with
  | ⟨0, _⟩ => rfl
  | ⟨1, _⟩ => show 0 + 1 * l.val = l.val; omega

/-- The cosine table before the loop. -/
theorem tab_cos (a : Memref sig .tc .vmem S256x128 .f32) (g : BufTy.Contents (Elt Ideal) a.view.ty) (r : Fin 256) (l : Fin 128) :
    (a.view.read (Elt Ideal) (a.view.writes (Elt Ideal) g (run.sl.HS0_2 c arg5 harg5 arg6 harg6 x4 x5)) (ix2 r l) : EReal)
      = kCosT (posOf x4 r) (fun l => x5 (ix2 0 l)) l := by
  unfold run.sl.HS0_2
  have hf := fun l => freq_load arg6 harg6 x5 inb_S1x128_S1x128_0_0 l
  rcases Nat.lt_or_ge r.val 128 with hr | hr
  · refine (View.read_writes_cons_rows_of_not_mem (W := 128) a.view g _ _ _ (ix2 r l) rfl rfl (Or.inl hr)).trans ?_
    refine (View.read_writes_cons_rows_of_mem a.view g _ _ _ (ix2 r l) (ix2 (n0 := 128) (n1 := 128) ⟨r.val, hr⟩ l) rfl (show r.val = 0 + r.val by omega) rfl).trans ?_
    refine (pay232_at _ _ ⟨r.val, hr⟩ l).trans ?_
    have hp := pos_load arg5 harg5 x4 ![0, 0, 0] inb_S1x2x128_S1x1x128_0_0_0 0 rfl ⟨r.val, hr⟩
    have hx : posOf x4 r = (((x4 (ix3 0 0 ⟨r.val, hr⟩) : BitVec 32).toInt : ℝ) : EReal) := posOf_eq x4 r 0 _ (show r.val = 128 * 0 + _ by show r.val = 128 * 0 + r.val; omega)
    rw [hx, ← hp]
    exact congrArg (fun f => kCosT _ f l) (funext hf)
  · refine (View.read_writes_cons_rows_of_mem a.view g _ _ _ (ix2 r l) (ix2 (n0 := 128) (n1 := 128) ⟨r.val - 128, by omega⟩ l) rfl (show r.val = 128 + (r.val - 128) by omega) rfl).trans ?_
    refine (pay244_at _ _ ⟨r.val - 128, by omega⟩ l).trans ?_
    have hp := pos_load arg5 harg5 x4 ![0, 1, 0] inb_S1x2x128_S1x1x128_0_1_0 1 rfl ⟨r.val - 128, by omega⟩
    have hx : posOf x4 r = (((x4 (ix3 0 1 ⟨r.val - 128, by omega⟩) : BitVec 32).toInt : ℝ) : EReal) := posOf_eq x4 r 1 _ (show r.val = 128 * 1 + _ by show r.val = 128 * 1 + (r.val - 128); omega)
    rw [hx, ← hp]
    exact congrArg (fun f => kCosT _ f l) (funext hf)

/-- The sine table before the loop. -/
theorem tab_sin (a : Memref sig .tc .vmem S256x128 .f32) (g : BufTy.Contents (Elt Ideal) a.view.ty) (r : Fin 256) (l : Fin 128) :
    (a.view.read (Elt Ideal) (a.view.writes (Elt Ideal) g (run.sl.HS1_2 c arg5 harg5 arg6 harg6 x4 x5)) (ix2 r l) : EReal)
      = kSinT (posOf x4 r) (fun l => x5 (ix2 0 l)) l := by
  unfold run.sl.HS1_2
  have hf := fun l => freq_load arg6 harg6 x5 inb_S1x128_S1x128_0_0 l
  rcases Nat.lt_or_ge r.val 128 with hr | hr
  · refine (View.read_writes_cons_rows_of_not_mem (W := 128) a.view g _ _ _ (ix2 r l) rfl rfl (Or.inl hr)).trans ?_
    refine (View.read_writes_cons_rows_of_mem a.view g _ _ _ (ix2 r l) (ix2 (n0 := 128) (n1 := 128) ⟨r.val, hr⟩ l) rfl (show r.val = 0 + r.val by omega) rfl).trans ?_
    refine (pay233_at _ _ ⟨r.val, hr⟩ l).trans ?_
    have hp := pos_load arg5 harg5 x4 ![0, 0, 0] inb_S1x2x128_S1x1x128_0_0_0 0 rfl ⟨r.val, hr⟩
    have hx : posOf x4 r = (((x4 (ix3 0 0 ⟨r.val, hr⟩) : BitVec 32).toInt : ℝ) : EReal) := posOf_eq x4 r 0 _ (show r.val = 128 * 0 + _ by show r.val = 128 * 0 + r.val; omega)
    rw [hx, ← hp]
    exact congrArg (fun f => kSinT _ f l) (funext hf)
  · refine (View.read_writes_cons_rows_of_mem a.view g _ _ _ (ix2 r l) (ix2 (n0 := 128) (n1 := 128) ⟨r.val - 128, by omega⟩ l) rfl (show r.val = 128 + (r.val - 128) by omega) rfl).trans ?_
    refine (pay245_at _ _ ⟨r.val - 128, by omega⟩ l).trans ?_
    have hp := pos_load arg5 harg5 x4 ![0, 1, 0] inb_S1x2x128_S1x1x128_0_1_0 1 rfl ⟨r.val - 128, by omega⟩
    have hx : posOf x4 r = (((x4 (ix3 0 1 ⟨r.val - 128, by omega⟩) : BitVec 32).toInt : ℝ) : EReal) := posOf_eq x4 r 1 _ (show r.val = 128 * 1 + _ by show r.val = 128 * 1 + (r.val - 128); omega)
    rw [hx, ← hp]
    exact congrArg (fun f => kSinT _ f l) (funext hf)

end Tables

end Cert.KernelIdeal.Body

end
-- ==== Proof.OutValue.lean ====
/-
  The five outputs of the body, read at an index: the heads rotated as Spec.lean's `kHead` rotates them, the scaled head, the
  codes and the scales.
-/
module

public import proofs.«01_k».proof.Proof.Tables
public import Idealize.ShloMosaic.Lib.WritesUnit

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic
open Idealize.SL Idealize.SL.Sem

/-! ### Strips -/

theorem accOf_at (d : Vec Ideal S256x8192 .fp8e4m3) (w : Vec Ideal S8192x256 .fp8e4m3) (s : Vec Ideal S1x256 .f32) (r j : Fin 256) :
    (accOf (F := Ideal) d w s (ix2 r j) : EReal) = (∑ x, (d (ix2 r x) : EReal) * w (ix2 x j)) * s (ix2 0 j) := by
  pointwise [accOf, dot_S256x8192_S8192x256_S256x256_1_0_0_1_n_n]

theorem ropeS_at (a C S : FVec Ideal S8x128 .f32) (r : Fin 8) (l : Fin 128) :
    (ropeS a C S (ix2 r l) : EReal) = (a (ix2 r l) : EReal) * C (ix2 r l) + (a (ix2 r (if l.val % 2 < 1 then hi l else lo l)) : EReal) * S (ix2 r l) := by
  pointwise [ropeS]
  rw [evenBit]
  split
  next h =>
    have hl : (⟨(l.val + 128 - 127) % 128, by omega⟩ : Fin 128) = hi l := Fin.ext (show (l.val + 128 - 127) % 128 = l.val / 2 * 2 + 1 by omega)
    rw [hl]; rfl
  next h =>
    have hl : (⟨(l.val + 128 - 1) % 128, by omega⟩ : Fin 128) = lo l := Fin.ext (show (l.val + 128 - 1) % 128 = l.val / 2 * 2 by omega)
    rw [hl]; rfl

theorem pairS_at (a b : FVec Ideal S8x128 .f32) (r : Fin 8) (h : Fin 2) (l : Fin 128) :
    (pairS a b (ix3 r h l) : EReal) = if h.val < 1 then a (ix2 r l) else b (ix2 r l) := by
  pointwise [pairS]
  rfl

theorem slice0_at (acc : FVec Ideal S256x256 .f32) (o : Fin 32) (r : Fin 8) (l : Fin 128) :
    extractStridedSlice S8x128 ![8 * o.val, 0] acc (slice0 o) (ix2 r l) = acc (ix2 ⟨8 * o.val + r.val, by omega⟩ ⟨l.val, by omega⟩) := by
  pointwise
theorem slice1_at (acc : FVec Ideal S256x256 .f32) (o : Fin 32) (r : Fin 8) (l : Fin 128) :
    extractStridedSlice S8x128 ![8 * o.val, 128] acc (slice1 o) (ix2 r l) = acc (ix2 ⟨8 * o.val + r.val, by omega⟩ ⟨128 + l.val, by omega⟩) := by
  pointwise

theorem qStrip_at (acc : FVec Ideal S256x256 .f32) (o : Fin 32) (C S : FVec Ideal S8x128 .f32) (r : Fin 8) (h : Fin 2) (l : Fin 128) :
    (qStrip acc o C S (ix3 r h l) : EReal) = (acc (ix2 ⟨8 * o.val + r.val, by omega⟩ ⟨128 * h.val + l.val, by omega⟩) : EReal) * C (ix2 r l)
      + (acc (ix2 ⟨8 * o.val + r.val, by omega⟩ ⟨128 * h.val + (if l.val % 2 < 1 then hi l else lo l).val, by omega⟩) : EReal) * S (ix2 r l) := by
  unfold qStrip
  rw [pairS_at, ropeS_at, ropeS_at, slice0_at, slice0_at, slice1_at, slice1_at]
  match h with
  | ⟨0, _⟩ => simp
  | ⟨1, _⟩ => simp

theorem vStrip_at (acc : FVec Ideal S256x256 .f32) (o : Fin 32) (s : Vec Ideal S8x1 .f32) (r : Fin 8) (h : Fin 2) (l : Fin 128) :
    (vStrip acc o s (ix3 r h l) : EReal) = (acc (ix2 ⟨8 * o.val + r.val, by omega⟩ ⟨128 * h.val + l.val, by omega⟩) : EReal) * s (ix2 r 0) := by
  unfold vStrip
  rw [pairS_at]
  have e : broadcastTo S8x128 (shapeCast S8x1 s shapeCasts_S8x1_S8x1 : FVec Ideal S8x1 .f32) broadcasts_S8x1_S8x128 (ix2 r l) = s (ix2 r 0) := by pointwise
  show (if h.val < 1 then (_ : EReal) * _ else (_ : EReal) * _) = _
  rw [e, slice0_at, slice1_at]
  match h with
  | ⟨0, _⟩ => simp
  | ⟨1, _⟩ => simp

/-! ### What the body leaves -/

variable (c : Dev nD) (i : grid0.Coords) (arg1 : Memref sig .tc .vmem S256x8192 .bf16) (harg1 : arg1.IsWhole) (arg2 : Memref sig .tc .vmem S1x8192 .bf16) (harg2 : arg2.IsWhole) (arg3 : Memref sig .tc .vmem S8192x3072 .fp8e4m3) (harg3 : arg3.IsWhole) (arg4 : Memref sig .tc .vmem S1x3072 .f32) (harg4 : arg4.IsWhole) (arg5 : Memref sig .tc .vmem S1x2x128 .i32) (harg5 : arg5.IsWhole) (arg6 : Memref sig .tc .vmem S1x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x128 .f32) (harg12 : arg12.IsWhole) (arg13 : Memref sig .tc .vmem S256x128 .f32) (harg13 : arg13.IsWhole)
  (x0 : Vec Ideal S256x8192 .bf16) (x1 : Vec Ideal S1x8192 .bf16) (x2 : Vec Ideal S8192x3072 .fp8e4m3) (x3 : Vec Ideal S1x3072 .f32) (x4 : Vec Ideal S1x2x128 .i32) (x5 : Vec Ideal S1x128 .f32) (f10 : BufTy.Contents (Elt Ideal) arg10.view.ty) (f11 : BufTy.Contents (Elt Ideal) arg11.view.ty)

/-- The projection's weights, -/
def wmat (x2 : Vec Ideal S8192x3072 .fp8e4m3) : Fin 8192 → Fin 3072 → EReal := fun l j => x2 (ix2 l j)
/-- its columns' scales, -/
def wscl (x3 : Vec Ideal S1x3072 .f32) : Fin 3072 → EReal := fun j => x3 (ix2 0 j)
/-- and the frequencies. -/
def frow (x5 : Vec Ideal S1x128 .f32) : Fin 128 → EReal := fun l => x5 (ix2 0 l)

/-- The loop's codes, -/
theorem loop_codes (r : Fin 256) (q : Fin 8192) :
    (arg10.view.read (Elt Ideal) (arg10.view.writes (Elt Ideal) f10 (loopL c i arg1 harg1 arg2 harg2 arg3 harg3 arg4 harg4 arg5 harg5 arg6 harg6 arg7 harg7 arg8 harg8 arg9 harg9 arg10 harg10 arg11 harg11 arg12 harg12 arg13 harg13 x0 x1 x4 x5 f10 f11).1) (ix2 r q) : EReal) = kCode (xrow x0 r) (nrow x1) q :=
  read_codes c i arg1 harg1 arg2 harg2 arg3 harg3 arg4 harg4 arg5 harg5 arg6 harg6 arg7 harg7 arg8 harg8 arg9 harg9 arg10 harg10 arg11 harg11 arg12 harg12 arg13 harg13 x0 x1 _ _ _ _ _ f10 f11 _ _ 8 (le_refl _) r q (by omega)
/-- its scales, -/
theorem loop_scale (r : Fin 256) :
    (arg11.view.read (Elt Ideal) (arg11.view.writes (Elt Ideal) f11 (loopL c i arg1 harg1 arg2 harg2 arg3 harg3 arg4 harg4 arg5 harg5 arg6 harg6 arg7 harg7 arg8 harg8 arg9 harg9 arg10 harg10 arg11 harg11 arg12 harg12 arg13 harg13 x0 x1 x4 x5 f10 f11).2.1) (ix2 r 0) : EReal) = lScale (kZ (xrow x0 r) (nrow x1)) :=
  read_scale c i arg1 harg1 arg2 harg2 arg3 harg3 arg4 harg4 arg5 harg5 arg6 harg6 arg7 harg7 arg8 harg8 arg9 harg9 arg10 harg10 arg11 harg11 arg12 harg12 arg13 harg13 x0 x1 _ _ _ _ _ f10 f11 _ _ 8 (le_refl _) r (by omega)

theorem strip_emb (o : Fin 32) (r : Fin 8) (l : Fin 128) :
    (Rect.unit (s := S256x128) ![8 * o.val, 0] S8x128.size (tOff_inb o)).emb (ix2 r l) = ix2 (⟨8 * o.val + r.val, by omega⟩ : Fin 256) l := by
  funext a
  apply Fin.ext
  match a with
  | ⟨0, _⟩ => show 8 * o.val + 1 * r.val = 8 * o.val + r.val; omega
  | ⟨1, _⟩ => show 0 + 1 * l.val = l.val; omega

/-- a strip of the cosine table after it, -/
theorem cosR_at (o : Fin 32) (r : Fin 8) (l : Fin 128) : (cosR c i arg1 harg1 arg2 harg2 arg3 harg3 arg4 harg4 arg5 harg5 arg6 harg6 arg7 harg7 arg8 harg8 arg9 harg9 arg10 harg10 arg11 harg11 arg12 harg12 arg13 harg13 x0 x1 x4 x5 f10 f11 o (ix2 r l) : EReal)
    = kCosT (posOf x4 ⟨8 * o.val + r.val, by omega⟩) (frow x5) l * lScale (kZ (xrow x0 ⟨8 * o.val + r.val, by omega⟩) (nrow x1)) := by
  unfold cosR
  show arg12.view.read (Elt Ideal) (arg12.view.writes (Elt Ideal) arg12.view.junk (_ ++ _)) ((Rect.unit (s := S256x128) ![8 * o.val, 0] S8x128.size (tOff_inb o)).emb (ix2 r l)) = _
  rw [View.writes_append, strip_emb]
  refine (read_cos c i arg1 harg1 arg2 harg2 arg3 harg3 arg4 harg4 arg5 harg5 arg6 harg6 arg7 harg7 arg8 harg8 arg9 harg9 arg10 harg10 arg11 harg11 arg12 harg12 arg13 harg13 x0 x1 _ _ _ _ _ f10 f11 _ _ 8 (le_refl _) _ l).trans ?_
  rw [if_pos (by show 8 * o.val + r.val < 32 * 8; omega), tab_cos]; rfl
/-- and of the sine table; -/
theorem sinR_at (o : Fin 32) (r : Fin 8) (l : Fin 128) : (sinR c i arg1 harg1 arg2 harg2 arg3 harg3 arg4 harg4 arg5 harg5 arg6 harg6 arg7 harg7 arg8 harg8 arg9 harg9 arg10 harg10 arg11 harg11 arg12 harg12 arg13 harg13 x0 x1 x4 x5 f10 f11 o (ix2 r l) : EReal)
    = kSinT (posOf x4 ⟨8 * o.val + r.val, by omega⟩) (frow x5) l * lScale (kZ (xrow x0 ⟨8 * o.val + r.val, by omega⟩) (nrow x1)) := by
  unfold sinR
  show arg13.view.read (Elt Ideal) (arg13.view.writes (Elt Ideal) arg13.view.junk (_ ++ _)) ((Rect.unit (s := S256x128) ![8 * o.val, 0] S8x128.size (tOff_inb o)).emb (ix2 r l)) = _
  rw [View.writes_append, strip_emb]
  refine (read_sin c i arg1 harg1 arg2 harg2 arg3 harg3 arg4 harg4 arg5 harg5 arg6 harg6 arg7 harg7 arg8 harg8 arg9 harg9 arg10 harg10 arg11 harg11 arg12 harg12 arg13 harg13 x0 x1 _ _ _ _ _ f10 f11 _ _ 8 (le_refl _) _ l).trans ?_
  rw [if_pos (by show 8 * o.val + r.val < 32 * 8; omega), tab_sin]; rfl
/-- of the scales. -/
theorem sclR_at (o : Fin 32) (r : Fin 8) : (sclR c i arg1 harg1 arg2 harg2 arg3 harg3 arg4 harg4 arg5 harg5 arg6 harg6 arg7 harg7 arg8 harg8 arg9 harg9 arg10 harg10 arg11 harg11 arg12 harg12 arg13 harg13 x0 x1 x4 x5 f10 f11 o (ix2 r 0) : EReal) = lScale (kZ (xrow x0 ⟨8 * o.val + r.val, by omega⟩) (nrow x1)) := by
  unfold sclR
  refine Eq.trans ?_ (loop_scale c i arg1 harg1 arg2 harg2 arg3 harg3 arg4 harg4 arg5 harg5 arg6 harg6 arg7 harg7 arg8 harg8 arg9 harg9 arg10 harg10 arg11 harg11 arg12 harg12 arg13 harg13 x0 x1 x4 x5 f10 f11 ⟨8 * o.val + r.val, by omega⟩)
  show arg11.view.read (Elt Ideal) _ ((Rect.unit (s := S256x1) ![8 * o.val, 0] S8x1.size (scOff_inb o)).emb (ix2 r 0)) = _
  congr 1
  funext a
  apply Fin.ext
  match a with
  | ⟨0, _⟩ => show 8 * o.val + 1 * r.val = 8 * o.val + r.val; omega
  | ⟨1, _⟩ => rfl

/-- The codes as the projection loads them. -/
theorem codesR_at (r : Fin 256) (q : Fin 8192) : (codesR c i arg1 harg1 arg2 harg2 arg3 harg3 arg4 harg4 arg5 harg5 arg6 harg6 arg7 harg7 arg8 harg8 arg9 harg9 arg10 harg10 arg11 harg11 arg12 harg12 arg13 harg13 x0 x1 x4 x5 f10 f11 (ix2 r q) : EReal) = kCode (xrow x0 r) (nrow x1) q := by
  unfold codesR run.sl.v157
  refine Eq.trans ?_ (loop_codes c i arg1 harg1 arg2 harg2 arg3 harg3 arg4 harg4 arg5 harg5 arg6 harg6 arg7 harg7 arg8 harg8 arg9 harg9 arg10 harg10 arg11 harg11 arg12 harg12 arg13 harg13 x0 x1 x4 x5 f10 f11 r q)
  show arg10.view.read (Elt Ideal) _ ((Rect.unit (s := S256x8192) ![0, 0] S256x8192.size _).emb (ix2 r q)) = _
  congr 1
  funext a
  apply Fin.ext
  match a with
  | ⟨0, _⟩ => show 0 + 1 * r.val = r.val; omega
  | ⟨1, _⟩ => show 0 + 1 * q.val = q.val; omega

/-- A block of the projection. -/
theorem accB_at (b : Fin 12) (r j : Fin 256) : (accB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 b (ix2 r j) : EReal)
    = kY (xrow x0 r) (nrow x1) (wmat x2) (wscl x3) ⟨256 * b.val + j.val, by omega⟩ := by
  unfold accB
  rw [accOf_at]
  unfold kY
  have hw : ∀ x : Fin 8192, (View.readAt (Elt Ideal) arg3.view (Rect.unit (s := S8192x3072) ![0, 256 * b.val] S8192x256.size (wOff_inb b)).toLoadRect (harg3.unread x2) (ix2 x j) : EReal)
      = wmat x2 x ⟨256 * b.val + j.val, by omega⟩ := by
    intro x
    refine (readAt_unread arg3 harg3 x2 _ _ _ (ix2 x j)).trans ?_
    unfold wmat
    congr 1
    funext a
    apply Fin.ext
    match a with
    | ⟨0, _⟩ => show 0 + 1 * x.val = x.val; omega
    | ⟨1, _⟩ => show 256 * b.val + 1 * j.val = 256 * b.val + j.val; omega
  have hs : (View.readAt (Elt Ideal) arg4.view (Rect.unit (s := S1x3072) ![0, 256 * b.val] S1x256.size (sOff_inb b)).toLoadRect (harg4.unread x3) (ix2 0 j) : EReal)
      = wscl x3 ⟨256 * b.val + j.val, by omega⟩ := by
    refine (readAt_unread arg4 harg4 x3 _ _ _ (ix2 0 j)).trans ?_
    unfold wscl
    congr 1
    funext a
    apply Fin.ext
    match a with
    | ⟨0, _⟩ => rfl
    | ⟨1, _⟩ => show 256 * b.val + 1 * j.val = 256 * b.val + j.val; omega
  refine congrArg₂ (fun s t : EReal => s * t) (Finset.sum_congr rfl fun x _ => ?_) hs
  exact congrArg₂ (fun s t : EReal => s * t) (codesR_at c i arg1 harg1 arg2 harg2 arg3 harg3 arg4 harg4 arg5 harg5 arg6 harg6 arg7 harg7 arg8 harg8 arg9 harg9 arg10 harg10 arg11 harg11 arg12 harg12 arg13 harg13 x0 x1 x4 x5 f10 f11 r x) (hw x)

theorem strips_mem : ∀ (o : Fin 32) (h : Fin 4), (o, h) ∈ stripsR := by decide

/-- Where an index of a strip and head pair lies. -/
theorem hRect_emb (o : Fin 32) (p : Fin 4) (r : Fin 8) (h : Fin 2) (l : Fin 128) :
    (Rect.unit (s := S256x8x128) ![8 * o.val, 2 * p.val, 0] S8x2x128.size (hOff_inb o p)).emb (ix3 r h l)
      = ix3 (⟨8 * o.val + r.val, by omega⟩ : Fin 256) (⟨2 * p.val + h.val, by omega⟩ : Fin 8) l := by
  funext a
  apply Fin.ext
  match a with
  | ⟨0, _⟩ => show 8 * o.val + 1 * r.val = 8 * o.val + r.val; omega
  | ⟨1, _⟩ => show 2 * p.val + 1 * h.val = 2 * p.val + h.val; omega
  | ⟨2, _⟩ => show 0 + 1 * l.val = l.val; omega

/-- Pieces over every strip and head pair read `G` when each holds `G` on its part. -/
theorem read_strips (a : Memref sig .tc .vmem S256x8x128 .bf16) (f : BufTy.Contents (Elt Ideal) a.view.ty) (G : Fin 256 → Fin 8 → Fin 128 → EReal)
    (P : Fin 32 × Fin 4 → View.Piece (Elt Ideal) S256x8x128 .bf16) (v : Fin 32 × Fin 4 → FVec Ideal S8x2x128 .bf16)
    (hP : ∀ p, P p = ⟨Rect.unit ![8 * p.1.val, 2 * p.2.val, 0] S8x2x128.size (hOff_inb p.1 p.2), v p⟩)
    (hv : ∀ o p r h l, (v (o, p) (ix3 r h l) : EReal) = G ⟨8 * o.val + r.val, by omega⟩ ⟨2 * p.val + h.val, by omega⟩ l)
    (r : Fin 256) (h : Fin 8) (l : Fin 128) :
    (a.view.read (Elt Ideal) (a.view.writes (Elt Ideal) f (stripsR.map P)) (ix3 r h l) : EReal) = G r h l := by
  refine View.read_writes_apply_of_pieces (Val := Elt Ideal) (e := .bf16) a.view _ (fun y : S256x8x128.Idx => (G (y 0) (y 1) (y 2) : Elt Ideal .bf16)) _ ?_ (ix3 r h l) ?_
  · intro q hq x
    obtain ⟨⟨o, p⟩, _, rfl⟩ := List.mem_map.mp hq
    revert x
    rw [hP]
    intro x
    obtain ⟨a', b', c', rfl⟩ : ∃ a b c, x = ix3 (n0 := 8) (n1 := 2) (n2 := 128) a b c := ⟨x 0, x 1, x 2, (ix3_eta x).symm⟩
    refine (hv o p a' b' c').trans ?_
    show _ = (fun y : S256x8x128.Idx => (G (y 0) (y 1) (y 2) : Elt Ideal .bf16)) ((Rect.unit (s := S256x8x128) ![8 * o.val, 2 * p.val, 0] S8x2x128.size (hOff_inb o p)).emb (ix3 a' b' c'))
    rw [hRect_emb]; rfl
  · refine ⟨_, List.mem_map.mpr ⟨(⟨r.val / 8, by omega⟩, ⟨h.val / 2, by omega⟩), strips_mem _ _, rfl⟩, ?_⟩
    rw [hP]
    show ix3 r h l ∈ (Rect.unit (s := S256x8x128) ![8 * (r.val / 8), 2 * (h.val / 2), 0] S8x2x128.size (hOff_inb ⟨r.val / 8, by omega⟩ ⟨h.val / 2, by omega⟩)).set
    rw [Rect.mem_set_unit]
    intro a
    match a with
    | ⟨0, _⟩ => show 8 * (r.val / 8) ≤ r.val ∧ r.val < 8 * (r.val / 8) + 8; omega
    | ⟨1, _⟩ => show 2 * (h.val / 2) ≤ h.val ∧ h.val < 2 * (h.val / 2) + 2; omega
    | ⟨2, _⟩ => show 0 ≤ l.val ∧ l.val < 0 + 128; omega

/-- A rotated output: outputs 0 and 1 of the projection's three. -/
theorem read_rot (a : Memref sig .tc .vmem S256x8x128 .bf16) (f : BufTy.Contents (Elt Ideal) a.view.ty) (b0 : ℕ) (hb : b0 + 4 ≤ 12) (o3 : Fin 3) (ho : b0 = 4 * o3.val)
    (r : Fin 256) (h : Fin 8) (l : Fin 128) :
    (a.view.read (Elt Ideal) (a.view.writes (Elt Ideal) f (stripsR.map (qPiece c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 b0 hb))) (ix3 r h l) : EReal)
      = kHead (xrow x0 r) (nrow x1) (wmat x2) (wscl x3) (posOf x4 r) (frow x5) o3 h l := by
  refine read_strips a f (fun r h l => kHead (xrow x0 r) (nrow x1) (wmat x2) (wscl x3) (posOf x4 r) (frow x5) o3 h l) _ _ (fun p => rfl) ?_ r h l
  intro o p r h l
  dsimp only
  rw [qStrip_at, accB_at, accB_at, cosR_at, sinR_at]
  unfold kHead
  have e1 : ∀ l : Fin 128, (⟨256 * (b0 + p.val) + (128 * h.val + l.val), by omega⟩ : Fin 3072) = col o3 ⟨2 * p.val + h.val, by omega⟩ l := fun l =>
    Fin.ext (show 256 * (b0 + p.val) + (128 * h.val + l.val) = 1024 * o3.val + 128 * (2 * p.val + h.val) + l.val by omega)
  rw [← e1, ← e1]

/-- The output that is only scaled. -/
theorem read_scaled (a : Memref sig .tc .vmem S256x8x128 .bf16) (f : BufTy.Contents (Elt Ideal) a.view.ty) (r : Fin 256) (h : Fin 8) (l : Fin 128) :
    (a.view.read (Elt Ideal) (a.view.writes (Elt Ideal) f (stripsR.map (vPiece c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11))) (ix3 r h l) : EReal)
      = kY (xrow x0 r) (nrow x1) (wmat x2) (wscl x3) (col 2 h l) * lScale (kZ (xrow x0 r) (nrow x1)) := by
  refine read_strips a f (fun r h l => kY (xrow x0 r) (nrow x1) (wmat x2) (wscl x3) (col 2 h l) * lScale (kZ (xrow x0 r) (nrow x1))) _ _ (fun p => rfl) ?_ r h l
  intro o p r h l
  dsimp only
  rw [vStrip_at, accB_at, sclR_at]
  have e1 : (⟨256 * (8 + p.val) + (128 * h.val + l.val), by omega⟩ : Fin 3072) = col 2 ⟨2 * p.val + h.val, by omega⟩ l :=
    Fin.ext (show 256 * (8 + p.val) + (128 * h.val + l.val) = 1024 * 2 + 128 * (2 * p.val + h.val) + l.val by omega)
  rw [← e1]

end Cert.KernelIdeal.Body

end
-- ==== Proof.Launch.lean ====
module

public import proofs.«01_k».proof.Proof.OutValue
public import proofs.«01_k».proof.Proof.Gen.KernelIdeal.Frame
public import Idealize.ShloMosaic.Lib.Claim

@[expose] public section

/-!
# The launch of the kernel over the reals

The blocks the body leaves at each grid point, as functions of the blocks it reads; the pipeline's proof data built on
them; the body obligation; and the run of `main`, with the frame.
-/
set_option maxRecDepth 16384

noncomputable section

namespace Cert.KernelIdeal.Body

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The blocks the body leaves -/

section Blocks

variable (x0 : Vec Ideal S256x8192 .bf16) (x1 : Vec Ideal S1x8192 .bf16) (x2 : Vec Ideal S8192x3072 .fp8e4m3)
  (x3 : Vec Ideal S1x3072 .f32) (x4 : Vec Ideal S1x2x128 .i32) (x5 : Vec Ideal S1x128 .f32)

/-- The queries' block. -/
def G6 : Vec Ideal S256x8x128 .bf16 := fun y =>
  kHead (xrow x0 (y 0)) (nrow x1) (wmat x2) (wscl x3) (posOf x4 (y 0)) (frow x5) 0 (y 1) (y 2)

/-- The keys' block. -/
def G7 : Vec Ideal S256x8x128 .bf16 := fun y =>
  kHead (xrow x0 (y 0)) (nrow x1) (wmat x2) (wscl x3) (posOf x4 (y 0)) (frow x5) 1 (y 1) (y 2)

/-- The values' block. -/
def G8 : Vec Ideal S256x8x128 .bf16 := fun y =>
  kY (xrow x0 (y 0)) (nrow x1) (wmat x2) (wscl x3) (col 2 (y 1) (y 2)) * lScale (kZ (xrow x0 (y 0)) (nrow x1))

/-- The codes' block. -/
def G9 : Vec Ideal S256x8192 .fp8e4m3 := fun y => kCode (xrow x0 (y 0)) (nrow x1) (y 1)

/-- The scales' block. -/
def G10 : Vec Ideal S256x1 .f32 := fun y => lScale (kZ (xrow x0 (y 0)) (nrow x1))

end Blocks

/-! ## The body's triple -/

/-- A memref owned at some contents, opened. -/
theorem owns_open {c : Dev nD} {s : Shape} {e : EltTy} (a : Memref sig .tc .vmem s e) :
    (iprop(∃ d, owns (c : Thread nD τ) a fullShare d) : sProp 𝕄)
      = iprop(∃ d, ∃ f, ⌜a.view.read (Elt Ideal) f = d⌝ ∗ (a.view.loc (c : Thread nD τ) ↦[a.view.set]{fullShare} f)) := by
  unfold owns; rfl

set_option maxHeartbeats 1600000 in
/-- The body, on the input blocks and any output and scratch contents, leaves the output blocks above. -/
theorem sound_kernel (c : Dev nD) (i : grid0.Coords) (arg1 : Memref sig .tc .vmem S256x8192 .bf16) (harg1 : arg1.IsWhole) (arg2 : Memref sig .tc .vmem S1x8192 .bf16) (harg2 : arg2.IsWhole) (arg3 : Memref sig .tc .vmem S8192x3072 .fp8e4m3) (harg3 : arg3.IsWhole) (arg4 : Memref sig .tc .vmem S1x3072 .f32) (harg4 : arg4.IsWhole) (arg5 : Memref sig .tc .vmem S1x2x128 .i32) (harg5 : arg5.IsWhole) (arg6 : Memref sig .tc .vmem S1x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x128 .f32) (harg12 : arg12.IsWhole) (arg13 : Memref sig .tc .vmem S256x128 .f32) (harg13 : arg13.IsWhole)
    (x0 : Vec Ideal S256x8192 .bf16) (x1 : Vec Ideal S1x8192 .bf16) (x2 : Vec Ideal S8192x3072 .fp8e4m3) (x3 : Vec Ideal S1x3072 .f32) (x4 : Vec Ideal S1x2x128 .i32) (x5 : Vec Ideal S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ owns (c : Thread nD τ) arg5 fullShare x4 ∗ owns (c : Thread nD τ) arg6 fullShare x5
      ∗ (∃ d, owns (c : Thread nD τ) arg7 fullShare d) ∗ (∃ d, owns (c : Thread nD τ) arg8 fullShare d) ∗ (∃ d, owns (c : Thread nD τ) arg9 fullShare d)
      ∗ (∃ d, owns (c : Thread nD τ) arg10 fullShare d) ∗ (∃ d, owns (c : Thread nD τ) arg11 fullShare d)
      ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare (G6 x0 x1 x2 x3 x4 x5) ∗ owns (c : Thread nD τ) arg8 fullShare (G7 x0 x1 x2 x3 x4 x5)
        ∗ owns (c : Thread nD τ) arg9 fullShare (G8 x0 x1 x2 x3) ∗ owns (c : Thread nD τ) arg10 fullShare (G9 x0 x1)
        ∗ owns (c : Thread nD τ) arg11 fullShare (G10 x0 x1)
        ∗ (∃ d, owns (c : Thread nD τ) arg12 fullShare d) ∗ (∃ d, owns (c : Thread nD τ) arg13 fullShare d)) -∗ K ⟨⟩))
    ⊢ wp frame (wpE (defs₀ (F := Ideal)) Variants.none c none) Set.univ (cc0_qkv_fused i arg1 harg1 arg2 harg2 arg3 harg3 arg4 harg4 arg5 harg5 arg6 harg6 arg7 harg7 arg8 harg8 arg9 harg9 arg10 harg10 arg11 harg11 arg12 harg12 arg13 harg13) K := by
  have e7 : ∀ f7 f10 f11, arg7.view.read (Elt Ideal) (arg7.view.writes (Elt Ideal) f7 ((run c i arg1 harg1 arg2 harg2 arg3 harg3 arg4 harg4 arg5 harg5 arg6 harg6 arg7 harg7 arg8 harg8 arg9 harg9 arg10 harg10 arg11 harg11 arg12 harg12 arg13 harg13 x0 x1 x2 x3 x4 x5).1 f10 f11)) = G6 x0 x1 x2 x3 x4 x5 := by
    intro f7 f10 f11
    funext y
    obtain ⟨r, h, l, rfl⟩ : ∃ r h l, y = ix3 r h l := ⟨y 0, y 1, y 2, (ix3_eta y).symm⟩
    rw [run_q]
    exact read_rot c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 arg7 f7 0 (by decide) 0 rfl r h l
  have e8 : ∀ f7 f10 f11, arg8.view.read (Elt Ideal) (arg8.view.writes (Elt Ideal) f7 ((run c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.1 f10 f11)) = G7 x0 x1 x2 x3 x4 x5 := by
    intro f7 f10 f11
    funext y
    obtain ⟨r, h, l, rfl⟩ : ∃ r h l, y = ix3 r h l := ⟨y 0, y 1, y 2, (ix3_eta y).symm⟩
    rw [run_k]
    exact read_rot c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 arg8 f7 4 (by decide) 1 rfl r h l
  have e9 : ∀ f7 f10 f11, arg9.view.read (Elt Ideal) (arg9.view.writes (Elt Ideal) f7 ((run c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.1 f10 f11)) = G8 x0 x1 x2 x3 := by
    intro f7 f10 f11
    funext y
    obtain ⟨r, h, l, rfl⟩ : ∃ r h l, y = ix3 r h l := ⟨y 0, y 1, y 2, (ix3_eta y).symm⟩
    rw [run_v]
    exact read_scaled c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f10 f11 arg9 f7 r h l
  have e10 : ∀ f10 f11, arg10.view.read (Elt Ideal) (arg10.view.writes (Elt Ideal) f10 ((run c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.1 f10 f11)) = G9 x0 x1 := by
    intro f10 f11
    funext y
    obtain ⟨r, l, rfl⟩ : ∃ r l, y = ix2 r l := ⟨y 0, y 1, (ix2_eta y).symm⟩
    rw [run_codes]
    exact loop_codes c i arg1 harg1 arg2 harg2 arg3 harg3 arg4 harg4 arg5 harg5 arg6 harg6 arg7 harg7 arg8 harg8 arg9 harg9 arg10 harg10 arg11 harg11 arg12 harg12 arg13 harg13 x0 x1 x4 x5 f10 f11 r l
  have e11 : ∀ f10 f11, arg11.view.read (Elt Ideal) (arg11.view.writes (Elt Ideal) f11 ((run c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.2.1 f10 f11)) = G10 x0 x1 := by
    intro f10 f11
    funext y
    obtain ⟨r, l, rfl⟩ : ∃ r l, y = ix2 r l := ⟨y 0, y 1, (ix2_eta y).symm⟩
    obtain rfl : l = 0 := Fin.fin_one_eq_zero l
    rw [run_scale]
    exact loop_scale c i arg1 harg1 arg2 harg2 arg3 harg3 arg4 harg4 arg5 harg5 arg6 harg6 arg7 harg7 arg8 harg8 arg9 harg9 arg10 harg10 arg11 harg11 arg12 harg12 arg13 harg13 x0 x1 x4 x5 f10 f11 r
  have hr := (run c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.2.2
  rw [owns_open arg7, owns_open arg8, owns_open arg9, owns_open arg10, owns_open arg11]
  iintro ⟨H0, H1, H2, H3, H4, H5, ⟨%d6, %f6, -, H6⟩, ⟨%d7, %f7, -, H7⟩, ⟨%d8, %f8, -, H8⟩, ⟨%d9, %f9, -, H9⟩, ⟨%d10, %f10, -, H10⟩, HS0, HS1, Hk⟩
  iapply (hr Set.univ K f6 f7 f8 f9 f10)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact e7 _ _ _
  isplitl [H7]
  · unfold owns; iexists _; isplitr; swap; · iexact H7
    ipureintro; exact e8 _ _ _
  isplitl [H8]
  · unfold owns; iexists _; isplitr; swap; · iexact H8
    ipureintro; exact e9 _ _ _
  isplitl [H9]
  · unfold owns; iexists _; isplitr; swap; · iexact H9
    ipureintro; exact e10 _ _
  isplitl [H10]
  · unfold owns; iexists _; isplitr; swap; · iexact H10
    ipureintro; exact e11 _ _
  isplitl [HS0]; · iexact HS0
  iexact HS1

/-! ## The staging memrefs and the invariant -/

/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x3072 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x8x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x8192 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

variable (m : (ℓ : Loc nD τ sig) → Buf (Elt Ideal) ℓ) (ρ : Dev nD → PrngReg)

/-- The proof data on core `c`: the arrays as the region finds them; after the body at point `t` each input's buffer at
    its block and each output's at the block above; the invariant the scoped rest and the generator register; nothing
    owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => G6 (iblk m c 0 t) (iblk m c 1 t) (iblk m c 2 t) (iblk m c 3 t) (iblk m c 4 t) (iblk m c 5 t)
    | ⟨7, _⟩ => G7 (iblk m c 0 t) (iblk m c 1 t) (iblk m c 2 t) (iblk m c 3 t) (iblk m c 4 t) (iblk m c 5 t)
    | ⟨8, _⟩ => G8 (iblk m c 0 t) (iblk m c 1 t) (iblk m c 2 t) (iblk m c 3 t)
    | ⟨9, _⟩ => G9 (iblk m c 0 t) (iblk m c 1 t)
    | ⟨10, _⟩ => G10 (iblk m c 0 t) (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = G6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = G7 (iblk m c 0 t) (iblk m c 1 t) (iblk m c 2 t) (iblk m c 3 t) (iblk m c 4 t) (iblk m c 5 t) := by dsimp only [dats]
theorem after0_8 (c : Dev nD) (t : Fin cfg0.N) : (dats m 0 c).after 8 t = G8 (iblk m c 0 t) (iblk m c 1 t) (iblk m c 2 t) (iblk m c 3 t) := by dsimp only [dats]
theorem after0_9 (c : Dev nD) (t : Fin cfg0.N) : (dats m 0 c).after 9 t = G9 (iblk m c 0 t) (iblk m c 1 t) := by dsimp only [dats]
theorem after0_10 (c : Dev nD) (t : Fin cfg0.N) : (dats m 0 c).after 10 t = G10 (iblk m c 0 t) (iblk m c 1 t) := by dsimp only [dats]
/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the proof data and every other unscoped buffer at its region-entry contents. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, with the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Final.lean ====
module

public import proofs.«01_k».proof.Proof.Launch
public import Idealize.ShloMosaic.Lib.Pipeline.Value

@[expose] public section

/-!
# The kernel's final arrays

Each input window's block at an index, and each output array after the run as one function of the arrays the launch
finds.
-/
set_option maxRecDepth 16384

noncomputable section

namespace Cert.KernelIdeal.Body

open Cert.KernelIdeal Cert.KernelIdeal.Gen Cert.Spec
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-! ## The arrays the region finds, as rows -/

/-- The hidden states' rows, -/
def aX (c : Dev nD) (R : Fin 6144) : Fin 8192 → EReal := fun l => (V m c main_v0 : Vec Ideal S6144x8192 .bf16) (ix2 R l)
/-- the norm's weights, -/
def aN (c : Dev nD) : Fin 8192 → EReal := fun l => (V m c main_v1 : Vec Ideal S1x8192 .bf16) (ix2 0 l)
/-- the projection's weights -/
def aW (c : Dev nD) : Fin 8192 → Fin 3072 → EReal := fun l j => (V m c main_arg2 : Vec Ideal S8192x3072 .fp8e4m3) (ix2 l j)
/-- and their scales, -/
def aS (c : Dev nD) : Fin 3072 → EReal := fun j => (V m c main_v2 : Vec Ideal S1x3072 .f32) (ix2 0 j)
/-- the positions, -/
def aP (c : Dev nD) (R : Fin 6144) : EReal :=
  FloatOps.sitofp (F := Ideal) (φ := .f32) ((V m c main_v3 : Vec Ideal S24x2x128 .i32) (ix3 ⟨R.val / 256, by omega⟩ ⟨R.val % 256 / 128, by omega⟩ ⟨R.val % 128, by omega⟩))
/-- and the frequencies. -/
def aF (c : Dev nD) : Fin 128 → EReal := fun l => (V m c main_cst : Vec Ideal S1x128 .f32) (ix2 0 l)

/-! ## The windows' blocks -/

/-- The grid has 24 points. -/
theorem N_eq : cfg0.N = 24 := by decide

/-- Row `r` of block `t`. -/
def RR (t : Fin cfg0.N) (r : Fin 256) : Fin 6144 := ⟨256 * t.val + r.val, by have := t.isLt; have := N_eq; omega⟩

/-- Where each window's block lies. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, win0_6.index t (0 : Fin 3) = t.val ∧ win0_6.index t (1 : Fin 3) = 0 ∧ win0_6.index t (2 : Fin 3) = 0)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

theorem blk0 (c : Dev nD) (t : Fin cfg0.N) (r : Fin 256) (l : Fin 8192) :
    (iblk m c 0 t : Vec Ideal S256x8192 .bf16) (ix2 r l) = (V m c main_v0 : Vec Ideal S6144x8192 .bf16) (ix2 (RR t r) l) := by
  show V m c main_v0 ((win0_0.rect t).emb (ix2 r l)) = _
  refine congrArg _ ?_
  obtain ⟨h0, h1⟩ := idx0 t
  funext a; apply Fin.ext
  match a with
  | ⟨0, _⟩ => show win0_0.index t (0 : Fin 2) * 256 + 1 * _ = _; rw [h0]; show _ * 256 + 1 * r.val = 256 * t.val + r.val; omega
  | ⟨1, _⟩ => show win0_0.index t (1 : Fin 2) * 8192 + 1 * _ = _; rw [h1]; show _ * 8192 + 1 * l.val = l.val; omega

theorem blk1 (c : Dev nD) (t : Fin cfg0.N) (r : Fin 1) (l : Fin 8192) :
    (iblk m c 1 t : Vec Ideal S1x8192 .bf16) (ix2 r l) = (V m c main_v1 : Vec Ideal S1x8192 .bf16) (ix2 r l) := by
  show V m c main_v1 ((win0_1.rect t).emb (ix2 r l)) = _
  refine congrArg _ ?_
  obtain ⟨h0, h1⟩ := idx1 t
  funext a; apply Fin.ext
  match a with
  | ⟨0, _⟩ => show win0_1.index t (0 : Fin 2) * 1 + 1 * _ = _; rw [h0]; show _ * 1 + 1 * r.val = r.val; omega
  | ⟨1, _⟩ => show win0_1.index t (1 : Fin 2) * 8192 + 1 * _ = _; rw [h1]; show _ * 8192 + 1 * l.val = l.val; omega

theorem blk2 (c : Dev nD) (t : Fin cfg0.N) (r : Fin 8192) (l : Fin 3072) :
    (iblk m c 2 t : Vec Ideal S8192x3072 .fp8e4m3) (ix2 r l) = (V m c main_arg2 : Vec Ideal S8192x3072 .fp8e4m3) (ix2 r l) := by
  show V m c main_arg2 ((win0_2.rect t).emb (ix2 r l)) = _
  refine congrArg _ ?_
  obtain ⟨h0, h1⟩ := idx2 t
  funext a; apply Fin.ext
  match a with
  | ⟨0, _⟩ => show win0_2.index t (0 : Fin 2) * 8192 + 1 * _ = _; rw [h0]; show _ * 8192 + 1 * r.val = r.val; omega
  | ⟨1, _⟩ => show win0_2.index t (1 : Fin 2) * 3072 + 1 * _ = _; rw [h1]; show _ * 3072 + 1 * l.val = l.val; omega

theorem blk3 (c : Dev nD) (t : Fin cfg0.N) (r : Fin 1) (l : Fin 3072) :
    (iblk m c 3 t : Vec Ideal S1x3072 .f32) (ix2 r l) = (V m c main_v2 : Vec Ideal S1x3072 .f32) (ix2 r l) := by
  show V m c main_v2 ((win0_3.rect t).emb (ix2 r l)) = _
  refine congrArg _ ?_
  obtain ⟨h0, h1⟩ := idx3 t
  funext a; apply Fin.ext
  match a with
  | ⟨0, _⟩ => show win0_3.index t (0 : Fin 2) * 1 + 1 * _ = _; rw [h0]; show _ * 1 + 1 * r.val = r.val; omega
  | ⟨1, _⟩ => show win0_3.index t (1 : Fin 2) * 3072 + 1 * _ = _; rw [h1]; show _ * 3072 + 1 * l.val = l.val; omega

theorem blk4 (c : Dev nD) (t : Fin cfg0.N) (r : Fin 1) (h : Fin 2) (l : Fin 128) :
    (iblk m c 4 t : Vec Ideal S1x2x128 .i32) (ix3 r h l) = (V m c main_v3 : Vec Ideal S24x2x128 .i32) (ix3 ⟨t.val, N_eq ▸ t.isLt⟩ h l) := by
  show V m c main_v3 ((win0_4.rect t).emb (ix3 r h l)) = _
  refine congrArg _ ?_
  obtain ⟨h0, h1, h2⟩ := idx4 t
  funext a; apply Fin.ext
  match a with
  | ⟨0, _⟩ => show win0_4.index t (0 : Fin 3) * 1 + 1 * _ = _; rw [h0]; show _ * 1 + 1 * r.val = t.val; omega
  | ⟨1, _⟩ => show win0_4.index t (1 : Fin 3) * 2 + 1 * _ = _; rw [h1]; show _ * 2 + 1 * h.val = h.val; omega
  | ⟨2, _⟩ => show win0_4.index t (2 : Fin 3) * 128 + 1 * _ = _; rw [h2]; show _ * 128 + 1 * l.val = l.val; omega

theorem blk5 (c : Dev nD) (t : Fin cfg0.N) (r : Fin 1) (l : Fin 128) :
    (iblk m c 5 t : Vec Ideal S1x128 .f32) (ix2 r l) = (V m c main_cst : Vec Ideal S1x128 .f32) (ix2 r l) := by
  show V m c main_cst ((win0_5.rect t).emb (ix2 r l)) = _
  refine congrArg _ ?_
  obtain ⟨h0, h1⟩ := idx5 t
  funext a; apply Fin.ext
  match a with
  | ⟨0, _⟩ => show win0_5.index t (0 : Fin 2) * 1 + 1 * _ = _; rw [h0]; show _ * 1 + 1 * r.val = r.val; omega
  | ⟨1, _⟩ => show win0_5.index t (1 : Fin 2) * 128 + 1 * _ = _; rw [h1]; show _ * 128 + 1 * l.val = l.val; omega

/-- The blocks' rows are the arrays' rows. -/
theorem xrow_blk (c : Dev nD) (t : Fin cfg0.N) (r : Fin 256) : xrow (iblk m c 0 t) r = aX m c (RR t r) :=
  funext fun l => blk0 m c t r l
theorem nrow_blk (c : Dev nD) (t : Fin cfg0.N) : nrow (iblk m c 1 t) = aN m c := funext fun l => blk1 m c t 0 l
theorem wmat_blk (c : Dev nD) (t : Fin cfg0.N) : wmat (iblk m c 2 t) = aW m c := funext fun l => funext fun j => blk2 m c t l j
theorem wscl_blk (c : Dev nD) (t : Fin cfg0.N) : wscl (iblk m c 3 t) = aS m c := funext fun j => blk3 m c t 0 j
theorem frow_blk (c : Dev nD) (t : Fin cfg0.N) : frow (iblk m c 5 t) = aF m c := funext fun l => blk5 m c t 0 l
theorem pos_blk (c : Dev nD) (t : Fin cfg0.N) (r : Fin 256) : posOf (iblk m c 4 t) r = aP m c (RR t r) := by
  have hq : r.val / 128 < 2 := by omega
  rw [posOf_eq (iblk m c 4 t) r ⟨r.val / 128, hq⟩ ⟨r.val % 128, by omega⟩ (by show r.val = 128 * (r.val / 128) + r.val % 128; omega)]
  unfold aP
  refine congrArg (fun b : BitVec 32 => ((b.toInt : ℝ) : EReal)) ((blk4 m c t 0 _ _).trans (congrArg _ ?_))
  have hN := N_eq; have ht := t.isLt
  have e0 : (RR t r).val = 256 * t.val + r.val := rfl
  funext a; apply Fin.ext
  match a with
  | ⟨0, _⟩ => show t.val = (RR t r).val / 256; omega
  | ⟨1, _⟩ => show r.val / 128 = (RR t r).val % 256 / 128; omega
  | ⟨2, _⟩ => show r.val % 128 = (RR t r).val % 128; omega

/-! ## The output arrays -/

/-- The queries, -/
def A6 (c : Dev nD) : Vec Ideal S6144x8x128 .bf16 := fun y =>
  kHead (aX m c (y 0)) (aN m c) (aW m c) (aS m c) (aP m c (y 0)) (aF m c) 0 (y 1) (y 2)
/-- the keys, -/
def A7 (c : Dev nD) : Vec Ideal S6144x8x128 .bf16 := fun y =>
  kHead (aX m c (y 0)) (aN m c) (aW m c) (aS m c) (aP m c (y 0)) (aF m c) 1 (y 1) (y 2)
/-- the values, -/
def A8 (c : Dev nD) : Vec Ideal S6144x8x128 .bf16 := fun y =>
  kY (aX m c (y 0)) (aN m c) (aW m c) (aS m c) (col 2 (y 1) (y 2)) * lScale (kZ (aX m c (y 0)) (aN m c))
/-- the codes -/
def A9 (c : Dev nD) : Vec Ideal S6144x8192 .fp8e4m3 := fun y => kCode (aX m c (y 0)) (aN m c) (y 1)
/-- and the scales. -/
def A10 (c : Dev nD) : Vec Ideal S6144x1 .f32 := fun y => lScale (kZ (aX m c (y 0)) (aN m c))

/-- The point whose block holds row `R`. -/
def tOf (R : Fin 6144) : Fin cfg0.N := ⟨R.val / 256, by have := N_eq; omega⟩

/-- Window 6's block at `t`, placed in its array. -/
theorem emb6 (t : Fin cfg0.N) (r : Fin 256) (h : Fin 8) (l : Fin 128) :
    (win0_6.rect t).emb (ix3 r h l) = ix3 (RR t r) h l := by
  obtain ⟨h0, h1, h2⟩ := idx6 t
  funext a; apply Fin.ext
  match a with
  | ⟨0, _⟩ => show win0_6.index t (0 : Fin 3) * 256 + 1 * _ = _; rw [h0]; show _ * 256 + 1 * r.val = 256 * t.val + r.val; omega
  | ⟨1, _⟩ => show win0_6.index t (1 : Fin 3) * 8 + 1 * _ = _; rw [h1]; show _ * 8 + 1 * h.val = h.val; omega
  | ⟨2, _⟩ => show win0_6.index t (2 : Fin 3) * 128 + 1 * _ = _; rw [h2]; show _ * 128 + 1 * l.val = l.val; omega

/-- What point `t` writes back to window 6 is block `t` of the array. -/
theorem flushed6 (c : Dev nD) (t : Fin cfg0.N) :
    (dats m 0 c).flushed 6 t = ((cfg0.win 6).blk t).view.read (Elt Ideal) (A6 m c) := by
  show (cfg0.win 6).cut (grid0.coords t) ((dats m 0 c).after 6 t) = _
  rw [after0_6]
  funext y
  obtain ⟨r, h, l, rfl⟩ : ∃ (r : Fin 256) (h : Fin 8) (l : Fin 128), y = ix3 r h l := ⟨y 0, y 1, y 2, (ix3_eta y).symm⟩
  refine Eq.trans ?_ (congrArg (A6 m c) (emb6 t r h l)).symm
  show G6 (iblk m c 0 t) (iblk m c 1 t) (iblk m c 2 t) (iblk m c 3 t) (iblk m c 4 t) (iblk m c 5 t) (ix3 r h l) = A6 m c (ix3 (RR t r) h l)
  unfold G6 A6
  show kHead (xrow (iblk m c 0 t) r) (nrow (iblk m c 1 t)) (wmat (iblk m c 2 t)) (wscl (iblk m c 3 t)) (posOf (iblk m c 4 t) r) (frow (iblk m c 5 t)) 0 h l = _
  rw [xrow_blk, nrow_blk, wmat_blk, wscl_blk, pos_blk, frow_blk]
  rfl

/-- Every index of window 6's array lies in some point's block. -/
theorem cover6 (i : S6144x8x128.Idx) : ∃ t : Fin cfg0.N, (cfg0.win 6).flush t = true ∧ i ∈ ((cfg0.win 6).blk t).view.set := by
  refine ⟨tOf (i 0), (by decide +kernel : ∀ t : Fin grid0.N, win0_6.flush t = true) _, ?_⟩
  show i ∈ ((View.whole main_v4_0).slice (win0_6.rect (tOf (i 0)))).set
  rw [View.set_slice_whole, Rect.mem_set_unit]
  obtain ⟨h0, h1, h2⟩ := idx6 (tOf (i 0))
  have hR := (i 0).isLt
  intro a
  match a with
  | ⟨0, _⟩ => show win0_6.index _ (0 : Fin 3) * 256 ≤ (i 0).val ∧ (i 0).val < win0_6.index _ (0 : Fin 3) * 256 + 256; rw [h0]; show (i 0).val / 256 * 256 ≤ _ ∧ _ < (i 0).val / 256 * 256 + 256; omega
  | ⟨1, _⟩ => have := (i 1).isLt; show win0_6.index _ (1 : Fin 3) * 8 ≤ (i 1).val ∧ (i 1).val < win0_6.index _ (1 : Fin 3) * 8 + 8; rw [h1]; exact ⟨by omega, by rw [Nat.zero_mul, Nat.zero_add]; exact this⟩
  | ⟨2, _⟩ => have := (i 2).isLt; show win0_6.index _ (2 : Fin 3) * 128 ≤ (i 2).val ∧ (i 2).val < win0_6.index _ (2 : Fin 3) * 128 + 128; rw [h2]; exact ⟨by omega, by rw [Nat.zero_mul, Nat.zero_add]; exact this⟩

/-- So the array ends at it. -/
theorem final6 (c : Dev nD) : (dats m 0 c).arrAt 6 cfg0.N = A6 m c :=
  (dats m 0 c).arrAt_eq_of_cover 6 (A6 m c) (fun t _ => flushed6 m c t) cover6

/-- Window 7's block at `t`, placed in its array. -/
theorem emb7 (t : Fin cfg0.N) (r : Fin 256) (h : Fin 8) (l : Fin 128) :
    (win0_7.rect t).emb (ix3 r h l) = ix3 (RR t r) h l := by
  obtain ⟨h0, h1, h2⟩ := idx7 t
  funext a; apply Fin.ext
  match a with
  | ⟨0, _⟩ => show win0_7.index t (0 : Fin 3) * 256 + 1 * _ = _; rw [h0]; show _ * 256 + 1 * r.val = 256 * t.val + r.val; omega
  | ⟨1, _⟩ => show win0_7.index t (1 : Fin 3) * 8 + 1 * _ = _; rw [h1]; show _ * 8 + 1 * h.val = h.val; omega
  | ⟨2, _⟩ => show win0_7.index t (2 : Fin 3) * 128 + 1 * _ = _; rw [h2]; show _ * 128 + 1 * l.val = l.val; omega

/-- What point `t` writes back to window 7 is block `t` of the array. -/
theorem flushed7 (c : Dev nD) (t : Fin cfg0.N) :
    (dats m 0 c).flushed 7 t = ((cfg0.win 7).blk t).view.read (Elt Ideal) (A7 m c) := by
  show (cfg0.win 7).cut (grid0.coords t) ((dats m 0 c).after 7 t) = _
  rw [after0_7]
  funext y
  obtain ⟨r, h, l, rfl⟩ : ∃ (r : Fin 256) (h : Fin 8) (l : Fin 128), y = ix3 r h l := ⟨y 0, y 1, y 2, (ix3_eta y).symm⟩
  refine Eq.trans ?_ (congrArg (A7 m c) (emb7 t r h l)).symm
  show G7 (iblk m c 0 t) (iblk m c 1 t) (iblk m c 2 t) (iblk m c 3 t) (iblk m c 4 t) (iblk m c 5 t) (ix3 r h l) = A7 m c (ix3 (RR t r) h l)
  unfold G7 A7
  show kHead (xrow (iblk m c 0 t) r) (nrow (iblk m c 1 t)) (wmat (iblk m c 2 t)) (wscl (iblk m c 3 t)) (posOf (iblk m c 4 t) r) (frow (iblk m c 5 t)) 1 h l = _
  rw [xrow_blk, nrow_blk, wmat_blk, wscl_blk, pos_blk, frow_blk]
  rfl

/-- Every index of window 7's array lies in some point's block. -/
theorem cover7 (i : S6144x8x128.Idx) : ∃ t : Fin cfg0.N, (cfg0.win 7).flush t = true ∧ i ∈ ((cfg0.win 7).blk t).view.set := by
  refine ⟨tOf (i 0), (by decide +kernel : ∀ t : Fin grid0.N, win0_7.flush t = true) _, ?_⟩
  show i ∈ ((View.whole main_v4_1).slice (win0_7.rect (tOf (i 0)))).set
  rw [View.set_slice_whole, Rect.mem_set_unit]
  obtain ⟨h0, h1, h2⟩ := idx7 (tOf (i 0))
  have hR := (i 0).isLt
  intro a
  match a with
  | ⟨0, _⟩ => show win0_7.index _ (0 : Fin 3) * 256 ≤ (i 0).val ∧ (i 0).val < win0_7.index _ (0 : Fin 3) * 256 + 256; rw [h0]; show (i 0).val / 256 * 256 ≤ _ ∧ _ < (i 0).val / 256 * 256 + 256; omega
  | ⟨1, _⟩ => have := (i 1).isLt; show win0_7.index _ (1 : Fin 3) * 8 ≤ (i 1).val ∧ (i 1).val < win0_7.index _ (1 : Fin 3) * 8 + 8; rw [h1]; exact ⟨by omega, by rw [Nat.zero_mul, Nat.zero_add]; exact this⟩
  | ⟨2, _⟩ => have := (i 2).isLt; show win0_7.index _ (2 : Fin 3) * 128 ≤ (i 2).val ∧ (i 2).val < win0_7.index _ (2 : Fin 3) * 128 + 128; rw [h2]; exact ⟨by omega, by rw [Nat.zero_mul, Nat.zero_add]; exact this⟩

/-- So the array ends at it. -/
theorem final7 (c : Dev nD) : (dats m 0 c).arrAt 7 cfg0.N = A7 m c :=
  (dats m 0 c).arrAt_eq_of_cover 7 (A7 m c) (fun t _ => flushed7 m c t) cover7

/-- Window 8's block at `t`, placed in its array. -/
theorem emb8 (t : Fin cfg0.N) (r : Fin 256) (h : Fin 8) (l : Fin 128) :
    (win0_8.rect t).emb (ix3 r h l) = ix3 (RR t r) h l := by
  obtain ⟨h0, h1, h2⟩ := idx8 t
  funext a; apply Fin.ext
  match a with
  | ⟨0, _⟩ => show win0_8.index t (0 : Fin 3) * 256 + 1 * _ = _; rw [h0]; show _ * 256 + 1 * r.val = 256 * t.val + r.val; omega
  | ⟨1, _⟩ => show win0_8.index t (1 : Fin 3) * 8 + 1 * _ = _; rw [h1]; show _ * 8 + 1 * h.val = h.val; omega
  | ⟨2, _⟩ => show win0_8.index t (2 : Fin 3) * 128 + 1 * _ = _; rw [h2]; show _ * 128 + 1 * l.val = l.val; omega

/-- What point `t` writes back to window 8 is block `t` of the array. -/
theorem flushed8 (c : Dev nD) (t : Fin cfg0.N) :
    (dats m 0 c).flushed 8 t = ((cfg0.win 8).blk t).view.read (Elt Ideal) (A8 m c) := by
  show (cfg0.win 8).cut (grid0.coords t) ((dats m 0 c).after 8 t) = _
  rw [after0_8]
  funext y
  obtain ⟨r, h, l, rfl⟩ : ∃ (r : Fin 256) (h : Fin 8) (l : Fin 128), y = ix3 r h l := ⟨y 0, y 1, y 2, (ix3_eta y).symm⟩
  refine Eq.trans ?_ (congrArg (A8 m c) (emb8 t r h l)).symm
  show G8 (iblk m c 0 t) (iblk m c 1 t) (iblk m c 2 t) (iblk m c 3 t) (ix3 r h l) = A8 m c (ix3 (RR t r) h l)
  unfold G8 A8
  show kY (xrow (iblk m c 0 t) r) (nrow (iblk m c 1 t)) (wmat (iblk m c 2 t)) (wscl (iblk m c 3 t)) (col 2 h l) * lScale (kZ (xrow (iblk m c 0 t) r) (nrow (iblk m c 1 t))) = _
  rw [xrow_blk, nrow_blk, wmat_blk, wscl_blk]
  rfl

/-- Every index of window 8's array lies in some point's block. -/
theorem cover8 (i : S6144x8x128.Idx) : ∃ t : Fin cfg0.N, (cfg0.win 8).flush t = true ∧ i ∈ ((cfg0.win 8).blk t).view.set := by
  refine ⟨tOf (i 0), (by decide +kernel : ∀ t : Fin grid0.N, win0_8.flush t = true) _, ?_⟩
  show i ∈ ((View.whole main_v4_2).slice (win0_8.rect (tOf (i 0)))).set
  rw [View.set_slice_whole, Rect.mem_set_unit]
  obtain ⟨h0, h1, h2⟩ := idx8 (tOf (i 0))
  have hR := (i 0).isLt
  intro a
  match a with
  | ⟨0, _⟩ => show win0_8.index _ (0 : Fin 3) * 256 ≤ (i 0).val ∧ (i 0).val < win0_8.index _ (0 : Fin 3) * 256 + 256; rw [h0]; show (i 0).val / 256 * 256 ≤ _ ∧ _ < (i 0).val / 256 * 256 + 256; omega
  | ⟨1, _⟩ => have := (i 1).isLt; show win0_8.index _ (1 : Fin 3) * 8 ≤ (i 1).val ∧ (i 1).val < win0_8.index _ (1 : Fin 3) * 8 + 8; rw [h1]; exact ⟨by omega, by rw [Nat.zero_mul, Nat.zero_add]; exact this⟩
  | ⟨2, _⟩ => have := (i 2).isLt; show win0_8.index _ (2 : Fin 3) * 128 ≤ (i 2).val ∧ (i 2).val < win0_8.index _ (2 : Fin 3) * 128 + 128; rw [h2]; exact ⟨by omega, by rw [Nat.zero_mul, Nat.zero_add]; exact this⟩

/-- So the array ends at it. -/
theorem final8 (c : Dev nD) : (dats m 0 c).arrAt 8 cfg0.N = A8 m c :=
  (dats m 0 c).arrAt_eq_of_cover 8 (A8 m c) (fun t _ => flushed8 m c t) cover8

/-- Window 9's block at `t`, placed in its array. -/
theorem emb9 (t : Fin cfg0.N) (r : Fin 256) (l : Fin 8192) :
    (win0_9.rect t).emb (ix2 r l) = ix2 (RR t r) l := by
  obtain ⟨h0, h1⟩ := idx9 t
  funext a; apply Fin.ext
  match a with
  | ⟨0, _⟩ => show win0_9.index t (0 : Fin 2) * 256 + 1 * _ = _; rw [h0]; show _ * 256 + 1 * r.val = 256 * t.val + r.val; omega
  | ⟨1, _⟩ => show win0_9.index t (1 : Fin 2) * 8192 + 1 * _ = _; rw [h1]; show _ * 8192 + 1 * l.val = l.val; omega

/-- What point `t` writes back to window 9 is block `t` of the array. -/
theorem flushed9 (c : Dev nD) (t : Fin cfg0.N) :
    (dats m 0 c).flushed 9 t = ((cfg0.win 9).blk t).view.read (Elt Ideal) (A9 m c) := by
  show (cfg0.win 9).cut (grid0.coords t) ((dats m 0 c).after 9 t) = _
  rw [after0_9]
  funext y
  obtain ⟨r, l, rfl⟩ : ∃ (r : Fin 256) (l : Fin 8192), y = ix2 r l := ⟨y 0, y 1, (ix2_eta y).symm⟩
  refine Eq.trans ?_ (congrArg (A9 m c) (emb9 t r l)).symm
  show G9 (iblk m c 0 t) (iblk m c 1 t) (ix2 r l) = A9 m c (ix2 (RR t r) l)
  unfold G9 A9
  show kCode (xrow (iblk m c 0 t) r) (nrow (iblk m c 1 t)) l = _
  rw [xrow_blk, nrow_blk]
  rfl

/-- Every index of window 9's array lies in some point's block. -/
theorem cover9 (i : S6144x8192.Idx) : ∃ t : Fin cfg0.N, (cfg0.win 9).flush t = true ∧ i ∈ ((cfg0.win 9).blk t).view.set := by
  refine ⟨tOf (i 0), (by decide +kernel : ∀ t : Fin grid0.N, win0_9.flush t = true) _, ?_⟩
  show i ∈ ((View.whole main_v4_3).slice (win0_9.rect (tOf (i 0)))).set
  rw [View.set_slice_whole, Rect.mem_set_unit]
  obtain ⟨h0, h1⟩ := idx9 (tOf (i 0))
  have hR := (i 0).isLt
  intro a
  match a with
  | ⟨0, _⟩ => show win0_9.index _ (0 : Fin 2) * 256 ≤ (i 0).val ∧ (i 0).val < win0_9.index _ (0 : Fin 2) * 256 + 256; rw [h0]; show (i 0).val / 256 * 256 ≤ _ ∧ _ < (i 0).val / 256 * 256 + 256; omega
  | ⟨1, _⟩ => have := (i 1).isLt; show win0_9.index _ (1 : Fin 2) * 8192 ≤ (i 1).val ∧ (i 1).val < win0_9.index _ (1 : Fin 2) * 8192 + 8192; rw [h1]; exact ⟨by omega, by rw [Nat.zero_mul, Nat.zero_add]; exact this⟩

/-- So the array ends at it. -/
theorem final9 (c : Dev nD) : (dats m 0 c).arrAt 9 cfg0.N = A9 m c :=
  (dats m 0 c).arrAt_eq_of_cover 9 (A9 m c) (fun t _ => flushed9 m c t) cover9

/-- Window 10's block at `t`, placed in its array. -/
theorem emb10 (t : Fin cfg0.N) (r : Fin 256) (l : Fin 1) :
    (win0_10.rect t).emb (ix2 r l) = ix2 (RR t r) l := by
  obtain ⟨h0, h1⟩ := idx10 t
  funext a; apply Fin.ext
  match a with
  | ⟨0, _⟩ => show win0_10.index t (0 : Fin 2) * 256 + 1 * _ = _; rw [h0]; show _ * 256 + 1 * r.val = 256 * t.val + r.val; omega
  | ⟨1, _⟩ => show win0_10.index t (1 : Fin 2) * 1 + 1 * _ = _; rw [h1]; show _ * 1 + 1 * l.val = l.val; omega

/-- What point `t` writes back to window 10 is block `t` of the array. -/
theorem flushed10 (c : Dev nD) (t : Fin cfg0.N) :
    (dats m 0 c).flushed 10 t = ((cfg0.win 10).blk t).view.read (Elt Ideal) (A10 m c) := by
  show (cfg0.win 10).cut (grid0.coords t) ((dats m 0 c).after 10 t) = _
  rw [after0_10]
  funext y
  obtain ⟨r, l, rfl⟩ : ∃ (r : Fin 256) (l : Fin 1), y = ix2 r l := ⟨y 0, y 1, (ix2_eta y).symm⟩
  refine Eq.trans ?_ (congrArg (A10 m c) (emb10 t r l)).symm
  show G10 (iblk m c 0 t) (iblk m c 1 t) (ix2 r l) = A10 m c (ix2 (RR t r) l)
  unfold G10 A10
  show lScale (kZ (xrow (iblk m c 0 t) r) (nrow (iblk m c 1 t))) = _
  rw [xrow_blk, nrow_blk]
  rfl

/-- Every index of window 10's array lies in some point's block. -/
theorem cover10 (i : S6144x1.Idx) : ∃ t : Fin cfg0.N, (cfg0.win 10).flush t = true ∧ i ∈ ((cfg0.win 10).blk t).view.set := by
  refine ⟨tOf (i 0), (by decide +kernel : ∀ t : Fin grid0.N, win0_10.flush t = true) _, ?_⟩
  show i ∈ ((View.whole main_v4_4).slice (win0_10.rect (tOf (i 0)))).set
  rw [View.set_slice_whole, Rect.mem_set_unit]
  obtain ⟨h0, h1⟩ := idx10 (tOf (i 0))
  have hR := (i 0).isLt
  intro a
  match a with
  | ⟨0, _⟩ => show win0_10.index _ (0 : Fin 2) * 256 ≤ (i 0).val ∧ (i 0).val < win0_10.index _ (0 : Fin 2) * 256 + 256; rw [h0]; show (i 0).val / 256 * 256 ≤ _ ∧ _ < (i 0).val / 256 * 256 + 256; omega
  | ⟨1, _⟩ => have := (i 1).isLt; show win0_10.index _ (1 : Fin 2) * 1 ≤ (i 1).val ∧ (i 1).val < win0_10.index _ (1 : Fin 2) * 1 + 1; rw [h1]; exact ⟨by omega, by rw [Nat.zero_mul, Nat.zero_add]; exact this⟩

/-- So the array ends at it. -/
theorem final10 (c : Dev nD) : (dats m 0 c).arrAt 10 cfg0.N = A10 m c :=
  (dats m 0 c).arrAt_eq_of_cover 10 (A10 m c) (fun t _ => flushed10 m c t) cover10

/-- The run: the outputs at these arrays, the arguments unchanged. -/
theorem run_final : θ_run defs (onTc (τ := τ) (main (F := Ideal))) ⟨m, fun _ => 0, ρ⟩ fun r => ∀ c : Dev nD,
    (r.2.mem ((c.tc : Thread nD τ).loc main_v4_0) = A6 m c
      ∧ r.2.mem ((c.tc : Thread nD τ).loc main_v4_1) = A7 m c
      ∧ r.2.mem ((c.tc : Thread nD τ).loc main_v4_2) = A8 m c
      ∧ r.2.mem ((c.tc : Thread nD τ).loc main_v4_3) = A9 m c
      ∧ r.2.mem ((c.tc : Thread nD τ).loc main_v4_4) = A10 m c)
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨⟨((h.1 c).1 6).trans (final6 m c), ((h.1 c).1 7).trans (final7 m c), ((h.1 c).1 8).trans (final8 m c),
    ((h.1 c).1 9).trans (final9 m c), ((h.1 c).1 10).trans (final10 m c)⟩, h.2 c⟩)
    (θ_run_and (run_main m ρ) (unchanged m ρ))

end Cert.KernelIdeal.Body

end
-- ==== Proof.RefScale.lean ====
module

public import proofs.«01_k».proof.Proof.Final
public import proofs.«01_k».proof.Proof.Gen.ReferenceIdeal.Value

@[expose] public section

/-!
# The reference's norm, scale, codes and projection at an index

The reference's one pass over the reals, up to the projection.
-/
set_option maxRecDepth 16384

noncomputable section

namespace Cert.ReferenceIdeal.Body

open Cert.ReferenceIdeal Cert.ReferenceIdeal.Gen Cert.Spec
open Cert.KernelIdeal.Body (rowMax rowSum)
open Idealize.ShloMosaic Idealize.ShloMosaic.TcCoe Idealize.ShloMosaic.Tactic
open Idealize.SL.Sem

/-- A column out of a vector. -/
theorem colCast (v : FVec Ideal S6144 .f32) (r : Fin 6144) : shapeCast S6144x1 v shapeCasts_S6144_S6144x1 (ix2 r 0) = v (ix1 r) := by
  pointwise

variable (x0 : Vec Ideal S6144x8192 .bf16) (x1 : Vec Ideal S1x8192 .bf16) (x2 : Vec Ideal S8192x3072 .fp8e4m3)
  (x3 : Vec Ideal S1x3072 .f32) (x4 : Vec Ideal S6144x1 .i32) (x5 : Vec Ideal S1x64 .f32) (x6 : Vec Ideal S1x254 .f32)

/-- The hidden states' rows, -/
def rX (r : Fin 6144) : Fin 8192 → EReal := fun l => x0 (ix2 r l)
/-- the norm's weights, -/
def rN : Fin 8192 → EReal := fun l => x1 (ix2 0 l)
/-- the projection's weights, -/
def rW : Fin 8192 → Fin 3072 → EReal := fun l j => x2 (ix2 l j)
/-- their scales, -/
def rS : Fin 3072 → EReal := fun j => x3 (ix2 0 j)
/-- the positions -/
def rP (r : Fin 6144) : EReal := FloatOps.sitofp (F := Ideal) (φ := .f32) (x4 (ix2 r 0))
/-- and the pairs' frequencies. -/
def rF : Fin 64 → EReal := fun q => x5 (ix2 0 q)

/-! ### The norm and the scale -/

theorem norm_at (r : Fin 6144) (l : Fin 8192) : (k0_pay2 x0 x1 (ix2 r l) : EReal) = rX x0 r l * sR (rX x0 r) * rN x1 l := by
  unfold rX rN sR C
  pointwise [k0_pay2]

theorem mulf_at {s : Shape} (a b : FVec Ideal s .f32) (i : s.Idx) : (mulf a b i : EReal) = a i * b i := rfl

/-- The largest magnitude of a row. -/
theorem amax_at (v : FVec Ideal S6144x8192 .f32) (r : Fin 6144) :
    (shapeCast S6144x1 (multiReduction .maximumf [1] S6144 (absf v) 0xFF800000#32 reduces_S6144x8192_S6144 (.inl rfl) rfl) shapeCasts_S6144_S6144x1 (ix2 r 0) : EReal)
      = Finset.fold max (C 0xFF800000#32) (fun l => mag (v (ix2 r l))) Finset.univ :=
  (colCast _ r).trans (rowMax _ _ _ _ _ r)

theorem pay3_eq : k0_pay3 x0 x1 = mulf (shapeCast S6144x1 (multiReduction .maximumf [1] S6144 (absf (k0_pay2 x0 x1)) 0xFF800000#32 reduces_S6144x8192_S6144 (.inl rfl) rfl) shapeCasts_S6144_S6144x1)
    (broadcast S6144x1 (Scalar.ofBits .f32 0x3B124925#32)) := by
  unfold k0_pay3; dsimp only

theorem z_at (r : Fin 6144) : (k0_pay3 x0 x1 (ix2 r 0) : EReal) = sZ (rX x0 r) (rN x1) := by
  rw [pay3_eq, mulf_at, amax_at]
  unfold sZ
  rw [funext fun l => congrArg mag (norm_at x0 x1 r l)]
  unfold C
  rfl

theorem one_gen (z : EReal) : IntOp.ori (Ideal.cmp .olt z (C 0x00800000#32)) (Ideal.cmp .oeq z (C 0x7F800000#32))
    = IntOp.ori (BitVec.ofBool (decide (z < C 0x00800000#32))) (BitVec.ofBool (decide (z = C 0x7F800000#32))) := by
  unfold Ideal.cmp
  generalize C 0x00800000#32 = a
  generalize C 0x7F800000#32 = b
  congr

theorem pay4_eq : k0_pay4 x0 x1 = ori (cmpf .olt (k0_pay3 x0 x1) (broadcast S6144x1 (Scalar.ofBits .f32 0x00800000#32 : Ideal .f32)))
    (cmpf .oeq (k0_pay3 x0 x1) (broadcast S6144x1 (Scalar.ofBits .f32 0x7F800000#32 : Ideal .f32))) := by
  unfold k0_pay4; dsimp only

theorem ori_at (z : FVec Ideal S6144x1 .f32) (a b : Ideal .f32) (i : S6144x1.Idx) :
    ori (cmpf .olt z (broadcast S6144x1 a)) (cmpf .oeq z (broadcast S6144x1 b)) i = IntOp.ori (Ideal.cmp .olt (z i) a) (Ideal.cmp .oeq (z i) b) := rfl

theorem one_at (r : Fin 6144) : k0_pay4 x0 x1 (ix2 r 0)
    = IntOp.ori (BitVec.ofBool (decide (sZ (rX x0 r) (rN x1) < C 0x00800000#32))) (BitVec.ofBool (decide (sZ (rX x0 r) (rN x1) = C 0x7F800000#32))) := by
  rw [← one_gen, pay4_eq, ori_at, z_at]
  generalize sZ (rX x0 r) (rN x1) = z
  rfl

theorem tab_at (z : FVec Ideal S6144x1 .f32) (p : Vec Ideal S1x254 .f32) (r : Fin 6144) :
    (shapeCast S6144x1 (multiReduction .maximumf [1] S6144 (select (cmpf .ole (broadcastTo S6144x254 p broadcasts_S1x254_S6144x254) (broadcastTo S6144x254 z broadcasts_S6144x1_S6144x254))
        (broadcastTo S6144x254 (shapeCast S1x254 p shapeCasts_S1x254_S1x254) broadcasts_S1x254_S6144x254) (broadcast S6144x254 (Scalar.ofBits .f32 0x00000000#32 : Ideal .f32)))
        0xFF800000#32 reduces_S6144x254_S6144 (.inl rfl) rfl) shapeCasts_S6144_S6144x1 (ix2 r 0) : EReal)
      = Finset.fold max (C 0xFF800000#32) (fun j : Fin 254 => if p (ix2 0 j) ≤ z (ix2 r 0) then p (ix2 0 j) else 0) Finset.univ := by
  refine (colCast _ r).trans ((rowMax _ _ _ _ _ r).trans ?_)
  refine congrArg (fun f => Finset.fold max (C 0xFF800000#32) f Finset.univ) (funext fun j => ?_)
  pointwise

theorem pay5_eq : k0_pay5 x0 x1 x6 x6 = mulf (broadcast S6144x1 (Scalar.ofBits .f32 0x40000000#32)) (shapeCast S6144x1 (multiReduction .maximumf [1] S6144 (select (cmpf .ole (broadcastTo S6144x254 x6 broadcasts_S1x254_S6144x254) (broadcastTo S6144x254 (k0_pay3 x0 x1) broadcasts_S6144x1_S6144x254))
        (broadcastTo S6144x254 (shapeCast S1x254 x6 shapeCasts_S1x254_S1x254) broadcasts_S1x254_S6144x254) (broadcast S6144x254 (Scalar.ofBits .f32 0x00000000#32 : Ideal .f32)))
        0xFF800000#32 reduces_S6144x254_S6144 (.inl rfl) rfl) shapeCasts_S6144_S6144x1) := by
  unfold k0_pay5; dsimp only

theorem pow_at (hx : ∀ j : Fin 254, (x6 (ix2 0 j) : EReal) = P2 ((j.val : ℤ) - 126)) (r : Fin 6144) : (k0_pay5 x0 x1 x6 x6 (ix2 r 0) : EReal)
    = C 0x40000000#32 * Finset.fold max (C 0xFF800000#32) (fun j : Fin 254 => if P2 ((j.val : ℤ) - 126) ≤ sZ (rX x0 r) (rN x1) then P2 ((j.val : ℤ) - 126) else 0) Finset.univ := by
  rw [pay5_eq, mulf_at, tab_at, z_at]
  simp only [hx]
  unfold C
  rfl

theorem scale_at (hx : ∀ j : Fin 254, (x6 (ix2 0 j) : EReal) = P2 ((j.val : ℤ) - 126)) (r : Fin 6144) :
    (k0_pay6 (k0_pay4 x0 x1) (k0_pay5 x0 x1 x6 x6) (Scalar.ofBits .f32 0x3F800000#32) (ix2 r 0) : EReal) = rowScale (rX x0 r) (rN x1) := by
  unfold rowScale sScale
  rw [← one_at, ← pow_at x0 x1 x6 hx, ← Ideal.ofBits_one_f32]
  unfold k0_pay6
  generalize k0_pay4 x0 x1 = v38
  generalize k0_pay5 x0 x1 x6 x6 = v40
  rfl

/-! ### The codes and the projection -/

theorem code_gen (v17 : FVec Ideal S6144x8192 .f32) (v38 : IVec S6144x1 1) (v40 : FVec Ideal S6144x1 .f32) (c : Ideal .f32) (r : Fin 6144) (l : Fin 8192) :
    (k0_pay7 v17 v38 v40 c (ix2 r l) : EReal) = min (C 0x43E00000#32) (max (C 0xC3E00000#32) (v17 (ix2 r l) * Ideal.div 1 (k0_pay6 v38 v40 c (ix2 r 0)))) := by
  unfold k0_pay7 C
  generalize k0_pay6 v38 v40 c = v42
  pointwise

theorem code_at (hx : ∀ j : Fin 254, (x6 (ix2 0 j) : EReal) = P2 ((j.val : ℤ) - 126)) (r : Fin 6144) (l : Fin 8192) :
    (k0_pay7 (k0_pay2 x0 x1) (k0_pay4 x0 x1) (k0_pay5 x0 x1 x6 x6) (Scalar.ofBits .f32 0x3F800000#32) (ix2 r l) : EReal) = sCode (rX x0 r) (rN x1) l := by
  rw [code_gen, norm_at, scale_at x0 x1 x6 hx]
  unfold sCode rowScale
  with_reducible rfl

theorem proj_gen (v17 : FVec Ideal S6144x8192 .f32) (v38 : IVec S6144x1 1) (v40 : FVec Ideal S6144x1 .f32) (c : Ideal .f32) (r : Fin 6144) (j : Fin 3072) :
    (k0_pay8 v17 v38 v40 c x2 x3 (ix2 r j) : EReal)
      = (∑ l, k0_pay7 v17 v38 v40 c (ix2 r l) * x2 (ix2 l j)) * k0_pay6 v38 v40 c (ix2 r 0) * x3 (ix2 0 j) := by
  unfold k0_pay8
  generalize k0_pay6 v38 v40 c = v42
  generalize k0_pay7 v17 v38 v40 c = v51
  pointwise [dot_S6144x8192_S8192x3072_S6144x3072_1_0_0_1_n_n]

/-- The projection's columns. -/
theorem proj_at (hx : ∀ j : Fin 254, (x6 (ix2 0 j) : EReal) = P2 ((j.val : ℤ) - 126)) (r : Fin 6144) (j : Fin 3072) :
    (k0_pay8 (k0_pay2 x0 x1) (k0_pay4 x0 x1) (k0_pay5 x0 x1 x6 x6) (Scalar.ofBits .f32 0x3F800000#32) x2 x3 (ix2 r j) : EReal)
      = sY (rX x0 r) (rN x1) (rW x2) (rS x3) j := by
  rw [proj_gen, scale_at x0 x1 x6 hx, Finset.sum_congr rfl fun l _ => by rw [code_at x0 x1 x6 hx]]
  unfold sY rW rS
  with_reducible rfl

end Cert.ReferenceIdeal.Body

end
-- ==== Proof.RefRot.lean ====
module

public import proofs.«01_k».proof.Proof.RefScale

@[expose] public section

/-!
# The reference's rotation at an index

The angles' cosines and sines, and a rotated head out of the projection.
-/
set_option maxRecDepth 16384

noncomputable section

namespace Cert.ReferenceIdeal.Body

open Cert.ReferenceIdeal Cert.ReferenceIdeal.Gen Cert.Spec
open Idealize.ShloMosaic Idealize.ShloMosaic.TcCoe Idealize.ShloMosaic.Tactic
open Idealize.SL.Sem

variable (x4 : Vec Ideal S6144x1 .i32) (x5 : Vec Ideal S1x64 .f32)

/-- The angle. -/
def ang (r : Fin 6144) (q : Fin 64) : EReal := rP x4 r * rF x5 q

theorem ang_at (r : Fin 6144) (q : Fin 64) : (k0_pay9 x4 x5 (ix2 r q) : EReal) = ang x4 x5 r q := by
  unfold ang rP rF
  pointwise [k0_pay9]

theorem n_at (r : Fin 6144) (q : Fin 64) : (k0_pay10 x4 x5 (ix2 r q) : EReal) = tN (ang x4 x5 r q) := by
  rw [← ang_at]; rfl

theorem r_at (r : Fin 6144) (q : Fin 64) : (k0_pay11 x4 x5 (ix2 r q) : EReal) = tR (ang x4 x5 r q) := by
  unfold tR
  rw [← n_at, ← ang_at]; rfl

theorem sin_at (r : Fin 6144) (q : Fin 64) :
    (k0_pay15 (k0_pay11 x4 x5) (k0_pay12 x4 x5) (k0_pay13 x4 x5) (k0_pay14 x4 x5) (Scalar.ofBits .f32 0x3C08839E#32) (ix2 r q) : EReal) = tSin (ang x4 x5 r q) := by
  unfold tSin
  rw [← r_at]; rfl

theorem cos_at (r : Fin 6144) (q : Fin 64) : (k0_pay16 (k0_pay12 x4 x5) (ix2 r q) : EReal) = tCos (ang x4 x5 r q) := by
  unfold tCos
  rw [← r_at, ← Ideal.ofBits_one_f32]; rfl

theorem w_at (r : Fin 6144) (q : Fin 64) : k0_pay17 (k0_pay10 x4 x5) (ix2 r q) = IntOp.andi (tW (ang x4 x5 r q)) 3#32 := by
  unfold tW
  rw [← n_at]; rfl

theorem sCos_at (r : Fin 6144) (q : Fin 64) :
    (k0_pay18 (k0_pay10 x4 x5) (k0_pay11 x4 x5) (k0_pay12 x4 x5) (k0_pay13 x4 x5) (k0_pay14 x4 x5) (Scalar.ofBits .f32 0x3C08839E#32) (ix2 r q) : EReal)
      = sCos (ang x4 x5 r q) := by
  unfold sCos
  rw [← w_at, ← sin_at, ← cos_at, ← Ideal.ofBits_zero_f32]; rfl

/-- The sine's choice. -/
def sinV : FVec Ideal S6144x64 .f32 :=
  select (k0_pay19 (k0_pay10 x4 x5)) (k0_pay15 (k0_pay11 x4 x5) (k0_pay12 x4 x5) (k0_pay13 x4 x5) (k0_pay14 x4 x5) (Scalar.ofBits .f32 0x3C08839E#32))
    (select (k0_pay20 (k0_pay10 x4 x5)) (k0_pay16 (k0_pay12 x4 x5))
      (select (k0_pay21 (k0_pay10 x4 x5)) (subf k0_pay22 (k0_pay15 (k0_pay11 x4 x5) (k0_pay12 x4 x5) (k0_pay13 x4 x5) (k0_pay14 x4 x5) (Scalar.ofBits .f32 0x3C08839E#32)))
        (subf k0_pay22 (k0_pay16 (k0_pay12 x4 x5)))))

theorem sSin_at (r : Fin 6144) (q : Fin 64) : (sinV x4 x5 (ix2 r q) : EReal) = sSin (ang x4 x5 r q) := by
  unfold sSin
  rw [← w_at, ← sin_at, ← cos_at, ← Ideal.ofBits_zero_f32]; rfl

/-! ### The rotation -/

/-- A rotated head out of the projection `y` and the tables `c`, `s`. -/
def rotV (y : FVec Ideal S6144x3072 .f32) (c s : FVec Ideal S6144x64 .f32) (o : Fin 3) (r : Fin 6144) (h : Fin 8) (l : Fin 128) : EReal :=
  if l.val % 2 < 1 then y (ix2 r (col o h (lo l))) * c (ix2 r (half l)) - y (ix2 r (col o h (hi l))) * s (ix2 r (half l))
  else y (ix2 r (col o h (hi l))) * c (ix2 r (half l)) + y (ix2 r (col o h (lo l))) * s (ix2 r (half l))

/-- The queries' rotation. -/
theorem rot0_at (y : FVec Ideal S6144x3072 .f32) (v89 v103 v119 : FVec Ideal S6144x64 .f32) (v121 v123 v125 : IVec S6144x64 1)
    (v126 : FVec Ideal S6144x64 .f32) (r : Fin 6144) (h : Fin 8) (l : Fin 128) :
    (k0_pay25 y v89 v103 v119 v121 v123 v125 v126 (ix3 r h l) : EReal)
      = rotV y v119 (select v121 v89 (select v123 v103 (select v125 (subf v126 v89) (subf (broadcast S6144x64 (Scalar.ofBits .f32 0x00000000#32 : Ideal .f32)) v103)))) 0 r h l := by
  have e1 : (⟨h.val * 128 + l.val / 2 * 2, by omega⟩ : Fin 3072) = col 0 h (lo l) := by
    apply Fin.ext; show h.val * 128 + l.val / 2 * 2 = 1024 * 0 + 128 * h.val + l.val / 2 * 2; omega
  have e2 : (⟨h.val * 128 + l.val / 2 * 2 + 1, by omega⟩ : Fin 3072) = col 0 h (hi l) := by
    apply Fin.ext; show h.val * 128 + l.val / 2 * 2 + 1 = 1024 * 0 + 128 * h.val + (l.val / 2 * 2 + 1); omega
  unfold rotV
  pointwise [k0_pay25, k0_pay23, k0_pay24]
  by_cases hl : l.val % 2 < 1
  · refine (dif_pos hl).trans (Eq.trans ?_ (if_pos hl).symm); rw [e1, e2]; rfl
  · refine (dif_neg hl).trans (Eq.trans ?_ (if_neg hl).symm); rw [e1, e2]; rfl

/-- The keys' rotation. -/
theorem rot1_at (y : FVec Ideal S6144x3072 .f32) (v89 v103 v119 : FVec Ideal S6144x64 .f32) (v121 v123 v125 : IVec S6144x64 1)
    (v126 : FVec Ideal S6144x64 .f32) (r : Fin 6144) (h : Fin 8) (l : Fin 128) :
    (k0_pay26 y v89 v103 v119 v121 v123 v125 v126 (ix3 r h l) : EReal)
      = rotV y v119 (select v121 v89 (select v123 v103 (select v125 (subf v126 v89) (subf (broadcast S6144x64 (Scalar.ofBits .f32 0x00000000#32 : Ideal .f32)) v103)))) 1 r h l := by
  have e1 : (⟨1024 + (h.val * 128 + l.val / 2 * 2), by omega⟩ : Fin 3072) = col 1 h (lo l) := by
    apply Fin.ext; show 1024 + (h.val * 128 + l.val / 2 * 2) = 1024 * 1 + 128 * h.val + l.val / 2 * 2; omega
  have e2 : (⟨1024 + (h.val * 128 + l.val / 2 * 2 + 1), by omega⟩ : Fin 3072) = col 1 h (hi l) := by
    apply Fin.ext; show 1024 + (h.val * 128 + l.val / 2 * 2 + 1) = 1024 * 1 + 128 * h.val + (l.val / 2 * 2 + 1); omega
  unfold rotV
  pointwise [k0_pay26, k0_pay23, k0_pay24]
  by_cases hl : l.val % 2 < 1
  · refine (dif_pos hl).trans (Eq.trans ?_ (if_pos hl).symm); rw [e1, e2]; rfl
  · refine (dif_neg hl).trans (Eq.trans ?_ (if_neg hl).symm); rw [e1, e2]; rfl

/-- The values' columns. -/
theorem val_at (y : FVec Ideal S6144x3072 .f32) (r : Fin 6144) (h : Fin 8) (l : Fin 128) :
    (k0_pay1 y (ix3 r h l) : EReal) = y (ix2 r (col 2 h l)) := by
  have e1 : (⟨2048 + (h.val * 128 + l.val), by omega⟩ : Fin 3072) = col 2 h l := by
    apply Fin.ext; show 2048 + (h.val * 128 + l.val) = 1024 * 2 + 128 * h.val + l.val; omega
  pointwise [k0_pay1]
  rw [e1]

end Cert.ReferenceIdeal.Body

end
-- ==== Proof.RefOut.lean ====
module

public import proofs.«01_k».proof.Proof.RefRot

@[expose] public section

/-!
# What the reference's body leaves, at an index

Each output window's buffer after the body, as the plain formulas of the input windows' blocks.
-/
set_option maxRecDepth 16384

noncomputable section

namespace Cert.ReferenceIdeal.Body

open Cert.ReferenceIdeal Cert.ReferenceIdeal.Gen Cert.Spec
open Idealize.ShloMosaic Idealize.ShloMosaic.TcCoe
open Idealize.SL.Sem

variable (x0 : Vec Ideal S6144x8192 .bf16) (x1 : Vec Ideal S1x8192 .bf16) (x2 : Vec Ideal S8192x3072 .fp8e4m3)
  (x3 : Vec Ideal S1x3072 .f32) (x4 : Vec Ideal S6144x1 .i32) (x5 : Vec Ideal S1x64 .f32) (x6 : Vec Ideal S1x254 .f32)

theorem off2 : (![0, 0] : Fin 2 → ℕ) = fun _ => 0 := by funext a; match a with | ⟨0, _⟩ => rfl | ⟨1, _⟩ => rfl
theorem off3 : (![0, 0, 0] : Fin 3 → ℕ) = fun _ => 0 := by
  funext a; match a with | ⟨0, _⟩ => rfl | ⟨1, _⟩ => rfl | ⟨2, _⟩ => rfl

/-- Each load reads its whole block. -/
theorem ld0 : View.ld x0 r0_0 = x0 := View.ld_unit_zero (S := S6144x8192) off2 _ x0
theorem ld1 : View.ld x1 r0_1 = x1 := View.ld_unit_zero (S := S1x8192) off2 _ x1
theorem ld2 : View.ld x6 r0_2 = x6 := View.ld_unit_zero (S := S1x254) off2 _ x6
theorem ld3 : View.ld x2 r0_3 = x2 := View.ld_unit_zero (S := S8192x3072) off2 _ x2
theorem ld4 : View.ld x3 r0_4 = x3 := View.ld_unit_zero (S := S1x3072) off2 _ x3
theorem ld5 : View.ld x4 r0_5 = x4 := View.ld_unit_zero (S := S6144x1) off2 _ x4
theorem ld6 : View.ld x5 r0_6 = x5 := View.ld_unit_zero (S := S1x64) off2 _ x5

theorem e27 : k0_pay27 x0 x1 x2 x3 x4 x5 x6 = k0_pay2 x0 x1 := by unfold k0_pay27; rw [ld0, ld1]
theorem e28 : k0_pay28 x0 x1 x2 x3 x4 x5 x6 = k0_pay4 x0 x1 := by unfold k0_pay28; rw [ld0, ld1]
theorem e29 : k0_pay29 x0 x1 x2 x3 x4 x5 x6 = k0_pay5 x0 x1 x6 x6 := by unfold k0_pay29; rw [ld0, ld1, ld2]
theorem e31 : k0_pay31 x0 x1 x2 x3 x4 x5 x6 = k0_pay10 x4 x5 := by unfold k0_pay31; rw [ld5, ld6]
theorem e32 : k0_pay32 x0 x1 x2 x3 x4 x5 x6 = k0_pay11 x4 x5 := by unfold k0_pay32; rw [ld5, ld6]
theorem e33 : k0_pay33 x0 x1 x2 x3 x4 x5 x6 = k0_pay12 x4 x5 := by unfold k0_pay33; rw [ld5, ld6]
theorem e34 : k0_pay34 x0 x1 x2 x3 x4 x5 x6 = k0_pay13 x4 x5 := by unfold k0_pay34; rw [ld5, ld6]
theorem e35 : k0_pay35 x0 x1 x2 x3 x4 x5 x6 = k0_pay14 x4 x5 := by unfold k0_pay35; rw [ld5, ld6]

variable (hx : ∀ j : Fin 254, (x6 (ix2 0 j) : EReal) = P2 ((j.val : ℤ) - 126))
include hx

/-- The projection. -/
theorem y_at (r : Fin 6144) (j : Fin 3072) :
    (k0_pay30 x0 x1 x2 x3 x4 x5 x6 (ix2 r j) : EReal) = sY (rX x0 r) (rN x1) (rW x2) (rS x3) j := by
  unfold k0_pay30
  rw [e27, e28, e29, ld3, ld4]
  exact proj_at x0 x1 x2 x3 x6 hx r j

omit hx in
/-- The cosines. -/
theorem cosV_at (r : Fin 6144) (q : Fin 64) :
    (k0_pay38 x0 x1 x2 x3 x4 x5 x6 (ix2 r q) : EReal) = sCos (rP x4 r * rF x5 q) := by
  unfold k0_pay38
  rw [e31, e32, e33, e34, e35]
  exact sCos_at x4 x5 r q

omit hx in
/-- The sines. -/
theorem sinV_at (r : Fin 6144) (q : Fin 64) :
    (select (k0_pay39 x0 x1 x2 x3 x4 x5 x6) (k0_pay36 x0 x1 x2 x3 x4 x5 x6)
      (select (k0_pay40 x0 x1 x2 x3 x4 x5 x6) (k0_pay37 x0 x1 x2 x3 x4 x5 x6)
        (select (k0_pay41 x0 x1 x2 x3 x4 x5 x6) (subf (k0_pay42 x0 x1 x2 x3 x4 x5 x6) (k0_pay36 x0 x1 x2 x3 x4 x5 x6))
          (subf (broadcast S6144x64 (Scalar.ofBits .f32 0x00000000#32 : Ideal .f32)) (k0_pay37 x0 x1 x2 x3 x4 x5 x6)))) (ix2 r q) : EReal)
      = sSin (rP x4 r * rF x5 q) := by
  unfold k0_pay39 k0_pay36 k0_pay40 k0_pay37 k0_pay41 k0_pay42
  rw [e31, e32, e33, e34, e35]
  exact sSin_at x4 x5 r q

/-- The queries, -/
theorem out7_at (r : Fin 6144) (h : Fin 8) (l : Fin 128) :
    (out0_7 x0 x1 x2 x3 x4 x5 x6 (ix3 r h l) : EReal) = sHead (rX x0 r) (rN x1) (rW x2) (rS x3) (rP x4 r) (rF x5) 0 h l := by
  refine (congrFun (View.canon_cons_unit_zero (S := S6144x8x128) off3 _ _ []) _).trans ((rot0_at _ _ _ _ _ _ _ _ r h l).trans ?_)
  unfold rotV sHead
  rw [y_at x0 x1 x2 x3 x4 x5 x6 hx, y_at x0 x1 x2 x3 x4 x5 x6 hx, cosV_at, sinV_at]
/-- the keys, -/
theorem out8_at (r : Fin 6144) (h : Fin 8) (l : Fin 128) :
    (out0_8 x0 x1 x2 x3 x4 x5 x6 (ix3 r h l) : EReal) = sHead (rX x0 r) (rN x1) (rW x2) (rS x3) (rP x4 r) (rF x5) 1 h l := by
  refine (congrFun (View.canon_cons_unit_zero (S := S6144x8x128) off3 _ _ []) _).trans ((rot1_at _ _ _ _ _ _ _ _ r h l).trans ?_)
  unfold rotV sHead
  rw [y_at x0 x1 x2 x3 x4 x5 x6 hx, y_at x0 x1 x2 x3 x4 x5 x6 hx, cosV_at, sinV_at]
/-- the values, -/
theorem out9_at (r : Fin 6144) (h : Fin 8) (l : Fin 128) :
    (out0_9 x0 x1 x2 x3 x4 x5 x6 (ix3 r h l) : EReal) = sY (rX x0 r) (rN x1) (rW x2) (rS x3) (col 2 h l) := by
  refine (congrFun (View.canon_cons_unit_zero (S := S6144x8x128) off3 _ _ []) _).trans ((val_at _ r h l).trans ?_)
  exact y_at x0 x1 x2 x3 x4 x5 x6 hx r _
/-- the codes -/
theorem out10_at (r : Fin 6144) (l : Fin 8192) :
    (out0_10 x0 x1 x2 x3 x4 x5 x6 (ix2 r l) : EReal) = sCode (rX x0 r) (rN x1) l := by
  refine (congrFun (View.canon_cons_unit_zero (S := S6144x8192) off2 _ _ []) _).trans ?_
  rw [e27, e28, e29]
  exact code_at x0 x1 x6 hx r l
/-- and the scales. -/
theorem out11_at (r : Fin 6144) :
    (out0_11 x0 x1 x2 x3 x4 x5 x6 (ix2 r 0) : EReal) = rowScale (rX x0 r) (rN x1) := by
  refine (congrFun (View.canon_cons_unit_zero (S := S6144x1) off2 _ _ []) _).trans ?_
  rw [e28, e29]
  exact scale_at x0 x1 x6 hx r

end Cert.ReferenceIdeal.Body

end
-- ==== Proof.RefFinal.lean ====
module

public import proofs.«01_k».proof.Proof.RefOut

@[expose] public section

/-!
# The reference's final arrays

The one point's blocks are the whole arrays, so each output array ends at what the body leaves, read off the arrays the
launch finds.
-/
set_option maxRecDepth 16384

noncomputable section

namespace Cert.ReferenceIdeal.Body

open Cert.ReferenceIdeal Cert.ReferenceIdeal.Gen Cert.Spec
open Idealize.ShloMosaic Idealize.ShloMosaic.TcCoe
open Idealize.SL.Sem

variable (m : (ℓ : Loc nD τ sig) → Buf (Elt Ideal) ℓ) (ρ : Dev nD → PrngReg)

/-! ## The windows' blocks are the whole arrays -/

theorem emb0 (t : Fin cfg0.N) (ix : S6144x8192.Idx) : (win0_0.rect t).emb ix = ix := by
  funext a; apply Fin.ext
  match a with
  | ⟨0, _⟩ => show 0 * 6144 + 1 * (ix 0).val = (ix 0).val; omega
  | ⟨1, _⟩ => show 0 * 8192 + 1 * (ix 1).val = (ix 1).val; omega
theorem iblk0 (c : Dev nD) (t : Fin cfg0.N) : (iblk m c 0 t : Vec Ideal S6144x8192 .bf16) = V m c main_v2 := by
  funext ix
  show V m c main_v2 ((win0_0.rect t).emb ix) = _
  rw [emb0]

theorem emb1 (t : Fin cfg0.N) (ix : S1x8192.Idx) : (win0_1.rect t).emb ix = ix := by
  funext a; apply Fin.ext
  match a with
  | ⟨0, _⟩ => show 0 * 1 + 1 * (ix 0).val = (ix 0).val; omega
  | ⟨1, _⟩ => show 0 * 8192 + 1 * (ix 1).val = (ix 1).val; omega
theorem iblk1 (c : Dev nD) (t : Fin cfg0.N) : (iblk m c 1 t : Vec Ideal S1x8192 .bf16) = V m c main_v3 := by
  funext ix
  show V m c main_v3 ((win0_1.rect t).emb ix) = _
  rw [emb1]

theorem emb2 (t : Fin cfg0.N) (ix : S8192x3072.Idx) : (win0_2.rect t).emb ix = ix := by
  funext a; apply Fin.ext
  match a with
  | ⟨0, _⟩ => show 0 * 8192 + 1 * (ix 0).val = (ix 0).val; omega
  | ⟨1, _⟩ => show 0 * 3072 + 1 * (ix 1).val = (ix 1).val; omega
theorem iblk2 (c : Dev nD) (t : Fin cfg0.N) : (iblk m c 2 t : Vec Ideal S8192x3072 .fp8e4m3) = V m c main_arg2 := by
  funext ix
  show V m c main_arg2 ((win0_2.rect t).emb ix) = _
  rw [emb2]

theorem emb3 (t : Fin cfg0.N) (ix : S1x3072.Idx) : (win0_3.rect t).emb ix = ix := by
  funext a; apply Fin.ext
  match a with
  | ⟨0, _⟩ => show 0 * 1 + 1 * (ix 0).val = (ix 0).val; omega
  | ⟨1, _⟩ => show 0 * 3072 + 1 * (ix 1).val = (ix 1).val; omega
theorem iblk3 (c : Dev nD) (t : Fin cfg0.N) : (iblk m c 3 t : Vec Ideal S1x3072 .f32) = V m c main_v4 := by
  funext ix
  show V m c main_v4 ((win0_3.rect t).emb ix) = _
  rw [emb3]

theorem emb4 (t : Fin cfg0.N) (ix : S6144x1.Idx) : (win0_4.rect t).emb ix = ix := by
  funext a; apply Fin.ext
  match a with
  | ⟨0, _⟩ => show 0 * 6144 + 1 * (ix 0).val = (ix 0).val; omega
  | ⟨1, _⟩ => show 0 * 1 + 1 * (ix 1).val = (ix 1).val; omega
theorem iblk4 (c : Dev nD) (t : Fin cfg0.N) : (iblk m c 4 t : Vec Ideal S6144x1 .i32) = V m c main_v5 := by
  funext ix
  show V m c main_v5 ((win0_4.rect t).emb ix) = _
  rw [emb4]

theorem emb5 (t : Fin cfg0.N) (ix : S1x64.Idx) : (win0_5.rect t).emb ix = ix := by
  funext a; apply Fin.ext
  match a with
  | ⟨0, _⟩ => show 0 * 1 + 1 * (ix 0).val = (ix 0).val; omega
  | ⟨1, _⟩ => show 0 * 64 + 1 * (ix 1).val = (ix 1).val; omega
theorem iblk5 (c : Dev nD) (t : Fin cfg0.N) : (iblk m c 5 t : Vec Ideal S1x64 .f32) = V m c main_v0 := by
  funext ix
  show V m c main_v0 ((win0_5.rect t).emb ix) = _
  rw [emb5]

theorem emb6 (t : Fin cfg0.N) (ix : S1x254.Idx) : (win0_6.rect t).emb ix = ix := by
  funext a; apply Fin.ext
  match a with
  | ⟨0, _⟩ => show 0 * 1 + 1 * (ix 0).val = (ix 0).val; omega
  | ⟨1, _⟩ => show 0 * 254 + 1 * (ix 1).val = (ix 1).val; omega
theorem iblk6 (c : Dev nD) (t : Fin cfg0.N) : (iblk m c 6 t : Vec Ideal S1x254 .f32) = V m c main_v1 := by
  funext ix
  show V m c main_v1 ((win0_6.rect t).emb ix) = _
  rw [emb6]

/-! ## The output arrays -/

/-- The one point. -/
def t0 : Fin cfg0.N := ⟨0, by decide⟩

/-- Output window 7's array after the run. -/
def B7 (c : Dev nD) : Vec Ideal S6144x8x128 .bf16 :=
  out0_7 (V m c main_v2) (V m c main_v3) (V m c main_arg2) (V m c main_v4) (V m c main_v5) (V m c main_v0) (V m c main_v1)
theorem emb7 (t : Fin cfg0.N) (ix : S6144x8x128.Idx) : (win0_7.rect t).emb ix = ix := by
  funext a; apply Fin.ext
  match a with
  | ⟨0, _⟩ => show 0 * 6144 + 1 * (ix 0).val = (ix 0).val; omega
  | ⟨1, _⟩ => show 0 * 8 + 1 * (ix 1).val = (ix 1).val; omega
  | ⟨2, _⟩ => show 0 * 128 + 1 * (ix 2).val = (ix 2).val; omega
theorem o7 (c : Dev nD) (t : Fin cfg0.N) : out0_7 (iblk m c 0 t) (iblk m c 1 t) (iblk m c 2 t) (iblk m c 3 t) (iblk m c 4 t) (iblk m c 5 t) (iblk m c 6 t) = B7 m c := by
  unfold B7
  rw [iblk0, iblk1, iblk2, iblk3, iblk4, iblk5, iblk6]
theorem write7 (c : Dev nD) (t : Fin cfg0.N) :
    (dats m 0 c).flushed 7 t = ((cfg0.win 7).blk t).view.read (Elt Ideal) (B7 m c) := by
  rw [Value.flushed7, o7 m c t]
  generalize B7 m c = B
  funext ix
  exact (congrArg B (emb7 t ix)).symm
theorem cover7 (i : S6144x8x128.Idx) : ∃ t : Fin cfg0.N, (cfg0.win 7).flush t = true ∧ i ∈ ((cfg0.win 7).blk t).view.set := by
  refine ⟨t0, (by decide +kernel : ∀ t : Fin grid0.N, win0_7.flush t = true) _, ?_⟩
  show i ∈ ((View.whole main_v6_0).slice (win0_7.rect t0)).set
  rw [View.set_slice_whole]
  rw [LoadRect.mem_set]
  exact fun a => ⟨(i a).val, (i a).isLt, congrArg (fun x : S6144x8x128.Idx => (x a).val) (emb7 t0 i).symm⟩
theorem final7 (c : Dev nD) : (dats m 0 c).arrAt 7 cfg0.N = B7 m c :=
  (dats m 0 c).arrAt_eq_of_cover 7 (B7 m c) (fun t _ => write7 m c t) cover7

/-- Output window 8's array after the run. -/
def B8 (c : Dev nD) : Vec Ideal S6144x8x128 .bf16 :=
  out0_8 (V m c main_v2) (V m c main_v3) (V m c main_arg2) (V m c main_v4) (V m c main_v5) (V m c main_v0) (V m c main_v1)
theorem emb8 (t : Fin cfg0.N) (ix : S6144x8x128.Idx) : (win0_8.rect t).emb ix = ix := by
  funext a; apply Fin.ext
  match a with
  | ⟨0, _⟩ => show 0 * 6144 + 1 * (ix 0).val = (ix 0).val; omega
  | ⟨1, _⟩ => show 0 * 8 + 1 * (ix 1).val = (ix 1).val; omega
  | ⟨2, _⟩ => show 0 * 128 + 1 * (ix 2).val = (ix 2).val; omega
theorem o8 (c : Dev nD) (t : Fin cfg0.N) : out0_8 (iblk m c 0 t) (iblk m c 1 t) (iblk m c 2 t) (iblk m c 3 t) (iblk m c 4 t) (iblk m c 5 t) (iblk m c 6 t) = B8 m c := by
  unfold B8
  rw [iblk0, iblk1, iblk2, iblk3, iblk4, iblk5, iblk6]
theorem write8 (c : Dev nD) (t : Fin cfg0.N) :
    (dats m 0 c).flushed 8 t = ((cfg0.win 8).blk t).view.read (Elt Ideal) (B8 m c) := by
  rw [Value.flushed8, o8 m c t]
  generalize B8 m c = B
  funext ix
  exact (congrArg B (emb8 t ix)).symm
theorem cover8 (i : S6144x8x128.Idx) : ∃ t : Fin cfg0.N, (cfg0.win 8).flush t = true ∧ i ∈ ((cfg0.win 8).blk t).view.set := by
  refine ⟨t0, (by decide +kernel : ∀ t : Fin grid0.N, win0_8.flush t = true) _, ?_⟩
  show i ∈ ((View.whole main_v6_1).slice (win0_8.rect t0)).set
  rw [View.set_slice_whole]
  rw [LoadRect.mem_set]
  exact fun a => ⟨(i a).val, (i a).isLt, congrArg (fun x : S6144x8x128.Idx => (x a).val) (emb8 t0 i).symm⟩
theorem final8 (c : Dev nD) : (dats m 0 c).arrAt 8 cfg0.N = B8 m c :=
  (dats m 0 c).arrAt_eq_of_cover 8 (B8 m c) (fun t _ => write8 m c t) cover8

/-- Output window 9's array after the run. -/
def B9 (c : Dev nD) : Vec Ideal S6144x8x128 .bf16 :=
  out0_9 (V m c main_v2) (V m c main_v3) (V m c main_arg2) (V m c main_v4) (V m c main_v5) (V m c main_v0) (V m c main_v1)
theorem emb9 (t : Fin cfg0.N) (ix : S6144x8x128.Idx) : (win0_9.rect t).emb ix = ix := by
  funext a; apply Fin.ext
  match a with
  | ⟨0, _⟩ => show 0 * 6144 + 1 * (ix 0).val = (ix 0).val; omega
  | ⟨1, _⟩ => show 0 * 8 + 1 * (ix 1).val = (ix 1).val; omega
  | ⟨2, _⟩ => show 0 * 128 + 1 * (ix 2).val = (ix 2).val; omega
theorem o9 (c : Dev nD) (t : Fin cfg0.N) : out0_9 (iblk m c 0 t) (iblk m c 1 t) (iblk m c 2 t) (iblk m c 3 t) (iblk m c 4 t) (iblk m c 5 t) (iblk m c 6 t) = B9 m c := by
  unfold B9
  rw [iblk0, iblk1, iblk2, iblk3, iblk4, iblk5, iblk6]
theorem write9 (c : Dev nD) (t : Fin cfg0.N) :
    (dats m 0 c).flushed 9 t = ((cfg0.win 9).blk t).view.read (Elt Ideal) (B9 m c) := by
  rw [Value.flushed9, o9 m c t]
  generalize B9 m c = B
  funext ix
  exact (congrArg B (emb9 t ix)).symm
theorem cover9 (i : S6144x8x128.Idx) : ∃ t : Fin cfg0.N, (cfg0.win 9).flush t = true ∧ i ∈ ((cfg0.win 9).blk t).view.set := by
  refine ⟨t0, (by decide +kernel : ∀ t : Fin grid0.N, win0_9.flush t = true) _, ?_⟩
  show i ∈ ((View.whole main_v6_2).slice (win0_9.rect t0)).set
  rw [View.set_slice_whole]
  rw [LoadRect.mem_set]
  exact fun a => ⟨(i a).val, (i a).isLt, congrArg (fun x : S6144x8x128.Idx => (x a).val) (emb9 t0 i).symm⟩
theorem final9 (c : Dev nD) : (dats m 0 c).arrAt 9 cfg0.N = B9 m c :=
  (dats m 0 c).arrAt_eq_of_cover 9 (B9 m c) (fun t _ => write9 m c t) cover9

/-- Output window 10's array after the run. -/
def B10 (c : Dev nD) : Vec Ideal S6144x8192 .fp8e4m3 :=
  out0_10 (V m c main_v2) (V m c main_v3) (V m c main_arg2) (V m c main_v4) (V m c main_v5) (V m c main_v0) (V m c main_v1)
theorem emb10 (t : Fin cfg0.N) (ix : S6144x8192.Idx) : (win0_10.rect t).emb ix = ix := by
  funext a; apply Fin.ext
  match a with
  | ⟨0, _⟩ => show 0 * 6144 + 1 * (ix 0).val = (ix 0).val; omega
  | ⟨1, _⟩ => show 0 * 8192 + 1 * (ix 1).val = (ix 1).val; omega
theorem o10 (c : Dev nD) (t : Fin cfg0.N) : out0_10 (iblk m c 0 t) (iblk m c 1 t) (iblk m c 2 t) (iblk m c 3 t) (iblk m c 4 t) (iblk m c 5 t) (iblk m c 6 t) = B10 m c := by
  unfold B10
  rw [iblk0, iblk1, iblk2, iblk3, iblk4, iblk5, iblk6]
theorem write10 (c : Dev nD) (t : Fin cfg0.N) :
    (dats m 0 c).flushed 10 t = ((cfg0.win 10).blk t).view.read (Elt Ideal) (B10 m c) := by
  rw [Value.flushed10, o10 m c t]
  generalize B10 m c = B
  funext ix
  exact (congrArg B (emb10 t ix)).symm
theorem cover10 (i : S6144x8192.Idx) : ∃ t : Fin cfg0.N, (cfg0.win 10).flush t = true ∧ i ∈ ((cfg0.win 10).blk t).view.set := by
  refine ⟨t0, (by decide +kernel : ∀ t : Fin grid0.N, win0_10.flush t = true) _, ?_⟩
  show i ∈ ((View.whole main_v6_3).slice (win0_10.rect t0)).set
  rw [View.set_slice_whole]
  rw [LoadRect.mem_set]
  exact fun a => ⟨(i a).val, (i a).isLt, congrArg (fun x : S6144x8192.Idx => (x a).val) (emb10 t0 i).symm⟩
theorem final10 (c : Dev nD) : (dats m 0 c).arrAt 10 cfg0.N = B10 m c :=
  (dats m 0 c).arrAt_eq_of_cover 10 (B10 m c) (fun t _ => write10 m c t) cover10

/-- Output window 11's array after the run. -/
def B11 (c : Dev nD) : Vec Ideal S6144x1 .f32 :=
  out0_11 (V m c main_v2) (V m c main_v3) (V m c main_arg2) (V m c main_v4) (V m c main_v5) (V m c main_v0) (V m c main_v1)
theorem emb11 (t : Fin cfg0.N) (ix : S6144x1.Idx) : (win0_11.rect t).emb ix = ix := by
  funext a; apply Fin.ext
  match a with
  | ⟨0, _⟩ => show 0 * 6144 + 1 * (ix 0).val = (ix 0).val; omega
  | ⟨1, _⟩ => show 0 * 1 + 1 * (ix 1).val = (ix 1).val; omega
theorem o11 (c : Dev nD) (t : Fin cfg0.N) : out0_11 (iblk m c 0 t) (iblk m c 1 t) (iblk m c 2 t) (iblk m c 3 t) (iblk m c 4 t) (iblk m c 5 t) (iblk m c 6 t) = B11 m c := by
  unfold B11
  rw [iblk0, iblk1, iblk2, iblk3, iblk4, iblk5, iblk6]
theorem write11 (c : Dev nD) (t : Fin cfg0.N) :
    (dats m 0 c).flushed 11 t = ((cfg0.win 11).blk t).view.read (Elt Ideal) (B11 m c) := by
  rw [Value.flushed11, o11 m c t]
  generalize B11 m c = B
  funext ix
  exact (congrArg B (emb11 t ix)).symm
theorem cover11 (i : S6144x1.Idx) : ∃ t : Fin cfg0.N, (cfg0.win 11).flush t = true ∧ i ∈ ((cfg0.win 11).blk t).view.set := by
  refine ⟨t0, (by decide +kernel : ∀ t : Fin grid0.N, win0_11.flush t = true) _, ?_⟩
  show i ∈ ((View.whole main_v6_4).slice (win0_11.rect t0)).set
  rw [View.set_slice_whole]
  rw [LoadRect.mem_set]
  exact fun a => ⟨(i a).val, (i a).isLt, congrArg (fun x : S6144x1.Idx => (x a).val) (emb11 t0 i).symm⟩
theorem final11 (c : Dev nD) : (dats m 0 c).arrAt 11 cfg0.N = B11 m c :=
  (dats m 0 c).arrAt_eq_of_cover 11 (B11 m c) (fun t _ => write11 m c t) cover11

/-- The run: the outputs at these arrays, the arguments unchanged. -/
theorem run_final : θ_run defs (onTc (τ := τ) (main (F := Ideal))) ⟨m, fun _ => 0, ρ⟩ fun r => ∀ c : Dev nD,
    r.2.mem ((c.tc : Thread nD τ).loc main_v6_0) = B7 m c
      ∧ r.2.mem ((c.tc : Thread nD τ).loc main_v6_1) = B8 m c
      ∧ r.2.mem ((c.tc : Thread nD τ).loc main_v6_2) = B9 m c
      ∧ r.2.mem ((c.tc : Thread nD τ).loc main_v6_3) = B10 m c
      ∧ r.2.mem ((c.tc : Thread nD τ).loc main_v6_4) = B11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, hk⟩ := h c
    exact ⟨h0.trans (final7 m c), h1.trans (final8 m c), h2.trans (final9 m c), h3.trans (final10 m c), h4.trans (final11 m c), hk⟩)
    (Value.run_blocks m ρ)

end Cert.ReferenceIdeal.Body

end
-- ==== Proof.Host.lean ====
module

public import proofs.«01_k».proof.Proof.RefFinal

@[expose] public section

/-!
# The arrays each launch finds

Each window's array as the host operations before the launch make it from the arguments, on both sides.
-/
set_option maxRecDepth 16384

noncomputable section

namespace Cert.KernelIdeal.Body

open Cert.KernelIdeal Cert.KernelIdeal.Gen Cert.Spec
open Idealize.ShloMosaic Idealize.ShloMosaic.TcCoe
open Idealize.SL.Sem

section
variable (m : (ℓ : Loc nD τ sig) → Buf (Elt Ideal) ℓ)

theorem V_main_v0 (c : Dev nD) : (V m c main_v0 : Vec Ideal S6144x8192 .bf16) = shapeCast S6144x8192 (m ((c.tc : Thread nD τ).loc main_arg0) : Vec Ideal S2x3072x8192 .bf16) shapeCasts_S2x3072x8192_S6144x8192 := by
  show StableHlo.after hostOps0 _ (Proc.devRef .tc main_v0) = _
  after_results
  rfl
theorem V_main_v1 (c : Dev nD) : (V m c main_v1 : Vec Ideal S1x8192 .bf16) = shapeCast S1x8192 (m ((c.tc : Thread nD τ).loc main_arg1) : Vec Ideal S8192 .bf16) shapeCasts_S8192_S1x8192 := by
  show StableHlo.after hostOps0 _ (Proc.devRef .tc main_v1) = _
  after_results
  rfl
theorem V_main_v2 (c : Dev nD) : (V m c main_v2 : Vec Ideal S1x3072 .f32) = shapeCast S1x3072 (m ((c.tc : Thread nD τ).loc main_arg3) : Vec Ideal S3072 .f32) shapeCasts_S3072_S1x3072 := by
  show StableHlo.after hostOps0 _ (Proc.devRef .tc main_v2) = _
  after_results
  rfl
theorem V_main_v3 (c : Dev nD) : (V m c main_v3 : Vec Ideal S24x2x128 .i32) = shapeCast S24x2x128 (m ((c.tc : Thread nD τ).loc main_arg4) : Vec Ideal S2x3072 .i32) shapeCasts_S2x3072_S24x2x128 := by
  show StableHlo.after hostOps0 _ (Proc.devRef .tc main_v3) = _
  after_results
  rfl
theorem V_main_cst (c : Dev nD) : (V m c main_cst : Vec Ideal S1x128 .f32) = fun i : S1x128.Idx => FloatOps.ofBits (F := Ideal) .f32 (lit0 (S1x128.rowMajor i)) := by
  show StableHlo.after hostOps0 _ (Proc.devRef .tc main_cst) = _
  after_results
  rfl

end

end Cert.KernelIdeal.Body

namespace Cert.ReferenceIdeal.Body

open Cert.ReferenceIdeal Cert.ReferenceIdeal.Gen Cert.Spec
open Idealize.ShloMosaic Idealize.ShloMosaic.TcCoe
open Idealize.SL.Sem

section
variable (m : (ℓ : Loc nD τ sig) → Buf (Elt Ideal) ℓ)

theorem V_main_v2 (c : Dev nD) : (V m c main_v2 : Vec Ideal S6144x8192 .bf16) = shapeCast S6144x8192 (m ((c.tc : Thread nD τ).loc main_arg0) : Vec Ideal S2x3072x8192 .bf16) shapeCasts_S2x3072x8192_S6144x8192 := by
  show StableHlo.after hostOps0 _ (Proc.devRef .tc main_v2) = _
  after_results
  rfl
theorem V_main_v3 (c : Dev nD) : (V m c main_v3 : Vec Ideal S1x8192 .bf16) = shapeCast S1x8192 (m ((c.tc : Thread nD τ).loc main_arg1) : Vec Ideal S8192 .bf16) shapeCasts_S8192_S1x8192 := by
  show StableHlo.after hostOps0 _ (Proc.devRef .tc main_v3) = _
  after_results
  rfl
theorem V_main_v4 (c : Dev nD) : (V m c main_v4 : Vec Ideal S1x3072 .f32) = shapeCast S1x3072 (m ((c.tc : Thread nD τ).loc main_arg3) : Vec Ideal S3072 .f32) shapeCasts_S3072_S1x3072 := by
  show StableHlo.after hostOps0 _ (Proc.devRef .tc main_v4) = _
  after_results
  rfl
theorem V_main_v5 (c : Dev nD) : (V m c main_v5 : Vec Ideal S6144x1 .i32) = shapeCast S6144x1 (m ((c.tc : Thread nD τ).loc main_arg4) : Vec Ideal S2x3072 .i32) shapeCasts_S2x3072_S6144x1 := by
  show StableHlo.after hostOps0 _ (Proc.devRef .tc main_v5) = _
  after_results
  rfl
theorem V_main_v0 (c : Dev nD) : (V m c main_v0 : Vec Ideal S1x64 .f32) = (broadcastInDim S1x64 ![1] bcast_S64_S1x64_1 (fun i : S64.Idx => FloatOps.ofBits (F := Ideal) .f32 (lit0 (S64.rowMajor i))) : FVec Ideal S1x64 .f32) := by
  show StableHlo.after hostOps0 _ (Proc.devRef .tc main_v0) = _
  after_results
  rfl
theorem V_main_v1 (c : Dev nD) : (V m c main_v1 : Vec Ideal S1x254 .f32) = (broadcastInDim S1x254 ![1] bcast_S254_S1x254_1 (fun i : S254.Idx => FloatOps.ofBits (F := Ideal) .f32 (lit1 (S254.rowMajor i))) : FVec Ideal S1x254 .f32) := by
  show StableHlo.after hostOps0 _ (Proc.devRef .tc main_v1) = _
  after_results
  rfl

/-- The table of powers of two. -/
theorem pow2_at (c : Dev nD) (j : Fin 254) : ((V m c main_v1 : Vec Ideal S1x254 .f32) (ix2 0 j) : EReal) = P2 ((j.val : ℤ) - 126) := by
  have hj : ((V m c main_v1 : Vec Ideal S1x254 .f32) (ix2 0 j) : EReal) = C (lit1 j) := by
    rw [V_main_v1]
    show C (lit1 (S254.rowMajor _)) = _
    refine congrArg (fun k => C (lit1 k)) (Fin.ext ?_)
    rw [Shape.rowMajor_val_one]; rfl
  rw [hj, C_pow2 (j.val + 1) (by omega) (by omega) _ ((by decide +kernel : ∀ l : Fin 254, lit1 l = BitVec.ofNat 32 ((l.val + 1) * 2 ^ 23)) j)]
  congr 1; push_cast; ring

end

end Cert.ReferenceIdeal.Body

end
-- ==== Proof.Equal.lean ====
module

public import proofs.«01_k».proof.Proof.Host

@[expose] public section

/-!
# Both sides' final arrays agree

From memories agreeing on the arguments, each array the kernel ends at is the reference's.
-/
set_option maxRecDepth 16384

noncomputable section

namespace Cert.Equal

open Cert.Spec
open Idealize.ShloMosaic Idealize.ShloMosaic.TcCoe
open Idealize.SL.Sem
open Cert.KernelIdeal.Body (aX aN aW aS aP aF A6 A7 A8 A9 A10)
open Cert.ReferenceIdeal.Body (rX rN rW rS rP rF B7 B8 B9 B10 B11)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The memories agree on the arguments of device `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable (hA : Agree m m' c)
include hA

theorem x_eq : aX m c = rX (Cert.ReferenceIdeal.Gen.V m' c Cert.ReferenceIdeal.main_v2) := by
  funext R l
  unfold aX rX
  rw [Cert.KernelIdeal.Body.V_main_v0, Cert.ReferenceIdeal.Body.V_main_v2, hA.1]
theorem n_eq : aN m c = rN (Cert.ReferenceIdeal.Gen.V m' c Cert.ReferenceIdeal.main_v3) := by
  funext l
  unfold aN rN
  rw [Cert.KernelIdeal.Body.V_main_v1, Cert.ReferenceIdeal.Body.V_main_v3, hA.2.1]
theorem w_eq : aW m c = rW (Cert.ReferenceIdeal.Gen.V m' c Cert.ReferenceIdeal.main_arg2) := by
  funext l j
  unfold aW rW
  rw [Cert.KernelIdeal.Gen.V_main_arg2, Cert.ReferenceIdeal.Gen.V_main_arg2, hA.2.2.1]
theorem s_eq : aS m c = rS (Cert.ReferenceIdeal.Gen.V m' c Cert.ReferenceIdeal.main_v4) := by
  funext j
  unfold aS rS
  rw [Cert.KernelIdeal.Body.V_main_v2, Cert.ReferenceIdeal.Body.V_main_v4, hA.2.2.2.1]
theorem p_eq : aP m c = rP (Cert.ReferenceIdeal.Gen.V m' c Cert.ReferenceIdeal.main_v5) := by
  funext R
  unfold aP rP
  refine congrArg (fun b : BitVec 32 => ((b.toInt : ℝ) : EReal)) ?_
  rw [Cert.KernelIdeal.Body.V_main_v3, Cert.ReferenceIdeal.Body.V_main_v5, hA.2.2.2.2]
  have hR := R.isLt
  refine (shapeCast_apply (s := Cert.KernelIdeal.S2x3072) (t := Cert.KernelIdeal.S24x2x128) _ _ _ (ix2 ⟨R.val / 3072, by omega⟩ ⟨R.val % 3072, by omega⟩) ?_).trans
    (shapeCast_apply (s := Cert.KernelIdeal.S2x3072) (t := Cert.ReferenceIdeal.S6144x1) _ _ _ (ix2 ⟨R.val / 3072, by omega⟩ ⟨R.val % 3072, by omega⟩) ?_).symm
  · rw [Shape.rowMajor_val_two, Shape.rowMajor_val_three]
    show R.val / 3072 * 3072 + R.val % 3072 = (R.val / 256 * 2 + R.val % 256 / 128) * 128 + R.val % 128
    omega
  · rw [Shape.rowMajor_val_two, Shape.rowMajor_val_two]
    show R.val / 3072 * 3072 + R.val % 3072 = R.val * 1 + 0
    omega

omit hA in
/-- Lane `l` of the kernel's frequencies is that of its pair. -/
theorem f_eq (l : Fin 128) : aF m c l = rF (Cert.ReferenceIdeal.Gen.V m' c Cert.ReferenceIdeal.main_v0) (half l) := by
  unfold aF rF
  rw [Cert.KernelIdeal.Body.V_main_cst, Cert.ReferenceIdeal.Body.V_main_v0]
  show C (Cert.KernelIdeal.lit0 (Cert.KernelIdeal.S1x128.rowMajor _)) = C (Cert.ReferenceIdeal.lit0 (Cert.ReferenceIdeal.S64.rowMajor _))
  have e1 : Cert.KernelIdeal.S1x128.rowMajor (ix2 0 l) = l := by
    apply Fin.ext; rw [Shape.rowMajor_val_two]; show 0 * 128 + l.val = l.val; omega
  have e2 : Cert.ReferenceIdeal.S64.rowMajor (ix1 (half l)) = half l := by
    apply Fin.ext; rw [Shape.rowMajor_val_one]; rfl
  refine (congrArg (fun k => C (Cert.KernelIdeal.lit0 k)) e1).trans (Eq.trans ?_ (congrArg (fun k => C (Cert.ReferenceIdeal.lit0 k)) e2).symm)
  exact congrArg C ((by decide +kernel : ∀ l : Fin 128, Cert.KernelIdeal.lit0 l = Cert.ReferenceIdeal.lit0 (half l)) l)

/-- The queries, -/
theorem q_eq : B7 m' c = A6 m c := by
  funext y
  obtain ⟨r, h, l, rfl⟩ : ∃ (r : Fin 6144) (h : Fin 8) (l : Fin 128), y = ix3 r h l := ⟨y 0, y 1, y 2, (ix3_eta y).symm⟩
  refine (Cert.ReferenceIdeal.Body.out7_at _ _ _ _ _ _ _ (Cert.ReferenceIdeal.Body.pow2_at m' c) r h l).trans ?_
  rw [← x_eq m m' c hA, ← n_eq m m' c hA, ← w_eq m m' c hA, ← s_eq m m' c hA, ← p_eq m m' c hA]
  exact (kHead_eq _ _ _ _ _ _ _ (f_eq m m' c) 0 h l).symm
/-- the keys, -/
theorem k_eq : B8 m' c = A7 m c := by
  funext y
  obtain ⟨r, h, l, rfl⟩ : ∃ (r : Fin 6144) (h : Fin 8) (l : Fin 128), y = ix3 r h l := ⟨y 0, y 1, y 2, (ix3_eta y).symm⟩
  refine (Cert.ReferenceIdeal.Body.out8_at _ _ _ _ _ _ _ (Cert.ReferenceIdeal.Body.pow2_at m' c) r h l).trans ?_
  rw [← x_eq m m' c hA, ← n_eq m m' c hA, ← w_eq m m' c hA, ← s_eq m m' c hA, ← p_eq m m' c hA]
  exact (kHead_eq _ _ _ _ _ _ _ (f_eq m m' c) 1 h l).symm
/-- the values, -/
theorem v_eq : B9 m' c = A8 m c := by
  funext y
  obtain ⟨r, h, l, rfl⟩ : ∃ (r : Fin 6144) (h : Fin 8) (l : Fin 128), y = ix3 r h l := ⟨y 0, y 1, y 2, (ix3_eta y).symm⟩
  refine (Cert.ReferenceIdeal.Body.out9_at _ _ _ _ _ _ _ (Cert.ReferenceIdeal.Body.pow2_at m' c) r h l).trans ?_
  rw [← x_eq m m' c hA, ← n_eq m m' c hA, ← w_eq m m' c hA, ← s_eq m m' c hA, ← kY_eq, ← kScale_eq]
  rfl
/-- the codes -/
theorem code_eq : B10 m' c = A9 m c := by
  funext y
  obtain ⟨r, l, rfl⟩ : ∃ (r : Fin 6144) (l : Fin 8192), y = ix2 r l := ⟨y 0, y 1, (ix2_eta y).symm⟩
  refine (Cert.ReferenceIdeal.Body.out10_at _ _ _ _ _ _ _ (Cert.ReferenceIdeal.Body.pow2_at m' c) r l).trans ?_
  rw [← x_eq m m' c hA, ← n_eq m m' c hA, ← kCode_eq]
  rfl
/-- and the scales. -/
theorem scale_eq : B11 m' c = A10 m c := by
  funext y
  obtain ⟨r, l, rfl⟩ : ∃ (r : Fin 6144) (l : Fin 1), y = ix2 r l := ⟨y 0, y 1, (ix2_eta y).symm⟩
  obtain rfl : l = 0 := Subsingleton.elim _ _
  refine (Cert.ReferenceIdeal.Body.out11_at _ _ _ _ _ _ _ (Cert.ReferenceIdeal.Body.pow2_at m' c) r).trans ?_
  rw [← x_eq m m' c hA, ← n_eq m m' c hA, ← kScale_eq]
  rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Equal

@[expose] public section

/-!
# The claims

The kernel's frame over the machine's own numbers; over the reals, both frames and the equality of every result.
-/

noncomputable section

namespace Cert.Proof

open Idealize.ShloMosaic Idealize.SL.Sem

/-- The kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hA
  refine ⟨Cert.KernelIdeal.Body.A6 m, Cert.KernelIdeal.Body.A7 m, Cert.KernelIdeal.Body.A8 m, Cert.KernelIdeal.Body.A9 m,
    Cert.KernelIdeal.Body.A10 m, ?_, ?_⟩
  · refine (θ_run _ _ _).mono (fun r h c => ?_) (Cert.KernelIdeal.Body.run_final m g)
    obtain ⟨⟨h0, h1, h2, h3, h4⟩, hk⟩ := h c
    exact ⟨h0, h1, h2, h3, h4, hk⟩
  · refine (θ_run _ _ _).mono (fun r h c => ?_) (Cert.ReferenceIdeal.Body.run_final m' g')
    obtain ⟨h0, h1, h2, h3, h4, hk⟩ := h c
    exact ⟨h0.trans (Cert.Equal.q_eq m m' c (hA c)), h1.trans (Cert.Equal.k_eq m m' c (hA c)), h2.trans (Cert.Equal.v_eq m m' c (hA c)),
      h3.trans (Cert.Equal.code_eq m m' c (hA c)), h4.trans (Cert.Equal.scale_eq m m' c (hA c)), hk⟩

theorem claim : Cert.Claim :=
  ⟨Cert.Kernel.Gen.facts, Cert.KernelIdeal.Gen.facts, Cert.ReferenceIdeal.Gen.facts,
    fun m g _ => Cert.Kernel.Body.frame m g, fun m g _ => Cert.KernelIdeal.Body.frame m g,
    fun m g _ => Cert.ReferenceIdeal.Gen.frame m g, trivial, algebraic⟩

end Cert.Proof

end
